-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_particles [hPre_finite_particles : Cert.Pre_finite_particles.Facts] (m : (ℓ : Loc Cert.KernelIdeal.nD Cert.KernelIdeal.τ Cert.KernelIdeal.sig) → Buf (Elt Ideal) ℓ) : Prop :=
  ∀ c : Dev Cert.KernelIdeal.nD,
    (Cert.Pre_finite_particles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_particles [hPre_finite_particles : Cert.Pre_finite_particles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_particles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_particles [hKernelIdeal : Cert.KernelIdeal.Facts] [hPre_finite_particles : Cert.Pre_finite_particles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_particles m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_particles [hReferenceIdeal : Cert.ReferenceIdeal.Facts] [hPre_finite_particles : Cert.Pre_finite_particles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_particles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_particles [hKernelIdeal : Cert.KernelIdeal.Facts] [hReferenceIdeal : Cert.ReferenceIdeal.Facts] [hPre_finite_particles : Cert.Pre_finite_particles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_particles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_particles : Cert.Pre_finite_particles.Facts),
    quiescent_Kernel (hKernel := hKernel)
    ∧ quiescent_KernelIdeal (hKernelIdeal := hKernelIdeal)
    ∧ quiescent_KernelIdeal_pre_finite_particles (hKernelIdeal := hKernelIdeal) (hPre_finite_particles := hPre_finite_particles)
    ∧ quiescent_ReferenceIdeal (hReferenceIdeal := hReferenceIdeal)
    ∧ quiescent_ReferenceIdeal_pre_finite_particles (hReferenceIdeal := hReferenceIdeal) (hPre_finite_particles := hPre_finite_particles)
    ∧ preserves_Kernel_KernelIdeal
    ∧ algebraic_KernelIdeal_ReferenceIdeal_pre_finite_particles (hKernelIdeal := hKernelIdeal) (hReferenceIdeal := hReferenceIdeal) (hPre_finite_particles := hPre_finite_particles)
-- ==== Pre_finite_particles.lean ====
abbrev S2048x3 : Shape := ⟨2, ![2048, 3]⟩
abbrev S2048 : Shape := ⟨1, ![2048]⟩
abbrev S_ : Shape := ⟨0, ![]⟩
abbrev S3 : Shape := ⟨1, ![3]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S3 : S_.BroadcastsInDim S3 (![] : Fin 0 → Fin S3.rank)
  reducesTo_S3_S_d0 : S3.ReducesTo [0] S_

variable [Facts]

def fn_part1 {F : FTy → Type} [FloatOps F] (main_arg7 : FVec F S_ .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_cst_6 : FVec F S_ .f32 := constant S_ .f32 0x00000000#32
  let main_v19 : IVec S_ 1 := cmpf .une main_arg7 main_cst_6
  let main_v20 : IVec S_ 1 := andi main_v18 main_v19
  main_v20

def fn {F : FTy → Type} [FloatOps F] (main_arg0 : FVec F S2048x3 .f32) (main_arg1 : FVec F S2048x3 .f32) (main_arg2 : FVec F S2048x3 .f32) (main_arg3 : FVec F S2048x3 .f32) (main_arg4 : FVec F S2048 .f32) (main_arg5 : FVec F S_ .f32) (main_arg6 : FVec F S_ .f32) (main_arg7 : FVec F S_ .f32) (main_arg8 : FVec F S3 .f32) (main_arg9 : FVec F S3 .f32) (main_arg10 : IVec S_ 32) : IVec S_ 1 :=
  let main_v0 : FVec F S2048x3 .f32 := Host.absf main_arg2
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048x3 .f32 := Host.absf main_arg3
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S3 .f32 := Host.absf main_arg8
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg9
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg7 main_v13 main_v16
-- ==== Kernel.lean ====
abbrev S2048x3 : Shape := ⟨2, ![2048, 3]⟩
abbrev S2048 : Shape := ⟨1, ![2048]⟩
abbrev S_ : Shape := ⟨0, ![]⟩
abbrev S3 : Shape := ⟨1, ![3]⟩
abbrev S2048x1 : Shape := ⟨2, ![2048, 1]⟩
abbrev S1 : Shape := ⟨1, ![1]⟩
abbrev S4 : Shape := ⟨1, ![4]⟩
abbrev S1x4 : Shape := ⟨2, ![1, 4]⟩
abbrev S1x3 : Shape := ⟨2, ![1, 3]⟩
abbrev S1x1 : Shape := ⟨2, ![1, 1]⟩
abbrev S9x2048 : Shape := ⟨2, ![9, 2048]⟩
abbrev S18x2048 : Shape := ⟨2, ![18, 2048]⟩
abbrev S1x2048 : Shape := ⟨2, ![1, 2048]⟩
abbrev S3x2048 : Shape := ⟨2, ![3, 2048]⟩
abbrev S1024x3 : Shape := ⟨2, ![1024, 3]⟩
abbrev S1024 : Shape := ⟨1, ![1024]⟩
abbrev S1024x1 : Shape := ⟨2, ![1024, 1]⟩
abbrev S1024x9 : Shape := ⟨2, ![1024, 9]⟩
abbrev S1024x18 : Shape := ⟨2, ![1024, 18]⟩
abbrev S1024x2048 : Shape := ⟨2, ![1024, 2048]⟩
abbrev S1x1024x1 : Shape := ⟨3, ![1, 1024, 1]⟩
abbrev S1x1x1 : Shape := ⟨3, ![1, 1, 1]⟩
abbrev S1x1024x3 : Shape := ⟨3, ![1, 1024, 3]⟩

abbrev nBuf : Space → Nat
  | .hbm => 32
  | .vmem => 14
  | .smem => 1
  | _ => 0

abbrev bufTy : (tb : Table) → Fin (tcTables nBuf tb) → BufTy
  | .hbm, ⟨0, _⟩ => ⟨S2048x3, .f32⟩
  | .hbm, ⟨1, _⟩ => ⟨S2048x3, .f32⟩
  | .hbm, ⟨2, _⟩ => ⟨S2048x3, .f32⟩
  | .hbm, ⟨3, _⟩ => ⟨S2048x3, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S3, .f32⟩
  | .hbm, ⟨9, _⟩ => ⟨S3, .f32⟩
  | .hbm, ⟨10, _⟩ => ⟨S_, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2048, .f32⟩
  | .hbm, ⟨18, _⟩ => ⟨S2048, .f32⟩
  | .hbm, ⟨19, _⟩ => ⟨S2048, .bf16⟩
  | .hbm, ⟨20, _⟩ => ⟨S2048x1, .bf16⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S4, .f32⟩
  | .hbm, ⟨27, _⟩ => ⟨S1x4, .f32⟩
  | .hbm, ⟨28, _⟩ => ⟨S1x3, .f32⟩
  | .hbm, ⟨29, _⟩ => ⟨S1x3, .f32⟩
  | .hbm, ⟨30, _⟩ => ⟨S1x1, .f32⟩
  | .hbm, ⟨31, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S2048x3, .f32⟩
  | .local _ .vmem, ⟨3, _⟩ => ⟨S2048x3, .f32⟩
  | .local _ .vmem, ⟨4, _⟩ => ⟨S2048x1, .bf16⟩
  | .local _ .vmem, ⟨5, _⟩ => ⟨S1x3, .f32⟩
  | .local _ .vmem, ⟨6, _⟩ => ⟨S1x3, .f32⟩
  | .local _ .vmem, ⟨7, _⟩ => ⟨S1x1, .f32⟩
  | .local _ .vmem, ⟨8, _⟩ => ⟨S9x2048, .bf16⟩
  | .local _ .vmem, ⟨9, _⟩ => ⟨S18x2048, .bf16⟩
  | .local _ .vmem, ⟨10, _⟩ => ⟨S1x2048, .f32⟩
  | .local _ .vmem, ⟨11, _⟩ => ⟨S1x2048, .f32⟩
  | .local _ .vmem, ⟨12, _⟩ => ⟨S2048x3, .f32⟩
  | .local _ .vmem, ⟨13, _⟩ => ⟨S2048x3, .f32⟩
  | .local _ .smem, ⟨0, _⟩ => ⟨S1x4, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c1024_i32 : BitVec 32 := 1024#32
  let v10 : BitVec 32 := Scalar.muli arg0 c1024_i32
  let v11 : Index := Scalar.indexCast v10
  let c0_6 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x3 : Shape := ⟨2, ![2048, 3]⟩
abbrev S2048 : Shape := ⟨1, ![2048]⟩
abbrev S_ : Shape := ⟨0, ![]⟩
abbrev S3 : Shape := ⟨1, ![3]⟩
abbrev S1x3 : Shape := ⟨2, ![1, 3]⟩
abbrev S2048x1 : Shape := ⟨2, ![2048, 1]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S2048x2048 : Shape := ⟨2, ![2048, 2048]⟩
abbrev S1x2048 : Shape := ⟨2, ![1, 2048]⟩
abbrev S2048x2048x1 : Shape := ⟨3, ![2048, 2048, 1]⟩

abbrev nBuf : Space → Nat
  | .hbm => 188
  | .vmem => 0
  | .smem => 0
  | _ => 0

abbrev hbmTy0_0 (i : Nat) : BufTy := match i % 128 with
  | 0 => ⟨S2048x3, .f32⟩
  | 1 => ⟨S2048x3, .f32⟩
  | 2 => ⟨S2048x3, .f32⟩
  | 3 => ⟨S2048x3, .f32⟩
  | 4 => ⟨S2048, .f32⟩
  | 5 => ⟨S_, .f32⟩
  | 6 => ⟨S_, .f32⟩
  | 7 => ⟨S_, .f32⟩
  | 8 => ⟨S3, .f32⟩
  | 9 => ⟨S3, .f32⟩
  | 10 => ⟨S_, .i32⟩
  | 11 => ⟨S2048x3, .f32⟩
  | 12 => ⟨S2048x3, .f32⟩
  | 13 => ⟨S_, .f32⟩
  | 14 => ⟨S2048, .f32⟩
  | 15 => ⟨S_, .f32⟩
  | 16 => ⟨S_, .f32⟩
  | 17 => ⟨S_, .f32⟩
  | 18 => ⟨S_, .f32⟩
  | 19 => ⟨S1x3, .f32⟩
  | 20 => ⟨S2048x3, .f32⟩
  | 21 => ⟨S2048x3, .f32⟩
  | 22 => ⟨S1x3, .f32⟩
  | 23 => ⟨S2048x3, .f32⟩
  | 24 => ⟨S2048x3, .f32⟩
  | 25 => ⟨S2048, .i32⟩
  | 26 => ⟨S2048, .i32⟩
  | 27 => ⟨S2048, .i1⟩
  | 28 => ⟨S2048, .f32⟩
  | 29 => ⟨S2048x1, .f32⟩
  | 30 => ⟨S2048x3, .f32⟩
  | 31 => ⟨S2048x3, .f32⟩
  | 32 => ⟨S2048x3, .f32⟩
  | 33 => ⟨S2048x1x3, .f32⟩
  | 34 => ⟨S1x2048x3, .f32⟩
  | 35 => ⟨S2048x2048x3, .f32⟩
  | 36 => ⟨S2048x2048x3, .f32⟩
  | 37 => ⟨S2048x2048x3, .f32⟩
  | 38 => ⟨S2048x2048x3, .f32⟩
  | 39 => ⟨S_, .f32⟩
  | 40 => ⟨S2048x2048, .f32⟩
  | 41 => ⟨S_, .f32⟩
  | 42 => ⟨S2048x2048, .f32⟩
  | 43 => ⟨S2048x2048, .f32⟩
  | 44 => ⟨S2048x2048, .f32⟩
  | 45 => ⟨S2048x2048, .f32⟩
  | 46 => ⟨S2048x2048, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S2048x2048, .f32⟩
  | 54 => ⟨S2048x2048, .f32⟩
  | 55 => ⟨S2048x2048, .f32⟩
  | 56 => ⟨S2048x2048, .f32⟩
  | 57 => ⟨S_, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S_, .f32⟩
  | 64 => ⟨S2048x2048, .f32⟩
  | 65 => ⟨S2048x2048, .f32⟩
  | 66 => ⟨S_, .f32⟩
  | 67 => ⟨S_, .f32⟩
  | 68 => ⟨S2048x2048, .f32⟩
  | 69 => ⟨S2048x2048, .f32⟩
  | 70 => ⟨S2048x2048, .f32⟩
  | 71 => ⟨S2048x2048, .f32⟩
  | 72 => ⟨S_, .f32⟩
  | 73 => ⟨S2048x2048, .f32⟩
  | 74 => ⟨S2048x2048, .f32⟩
  | 75 => ⟨S_, .f32⟩
  | 76 => ⟨S2048x2048, .f32⟩
  | 77 => ⟨S2048x2048, .i1⟩
  | 78 => ⟨S2048x2048, .f32⟩
  | 79 => ⟨S_, .f32⟩
  | 80 => ⟨S2048x2048, .f32⟩
  | 81 => ⟨S2048x2048, .i1⟩
  | 82 => ⟨S_, .f32⟩
  | 83 => ⟨S_, .f32⟩
  | 84 => ⟨S2048x2048, .f32⟩
  | 85 => ⟨S2048x2048, .f32⟩
  | 86 => ⟨S2048x2048, .f32⟩
  | 87 => ⟨S2048x2048, .f32⟩
  | 88 => ⟨S1x2048, .f32⟩
  | 89 => ⟨S2048x2048, .f32⟩
  | 90 => ⟨S2048x2048, .f32⟩
  | 91 => ⟨S_, .f32⟩
  | 92 => ⟨S2048, .f32⟩
  | 93 => ⟨S2048, .f32⟩
  | 94 => ⟨S2048, .f32⟩
  | 95 => ⟨S2048, .f32⟩
  | 96 => ⟨S2048, .f32⟩
  | 97 => ⟨S_, .f32⟩
  | 98 => ⟨S2048, .f32⟩
  | 99 => ⟨S2048, .f32⟩
  | 100 => ⟨S2048, .f32⟩
  | 101 => ⟨S_, .f32⟩
  | 102 => ⟨S_, .f32⟩
  | 103 => ⟨S_, .f32⟩
  | 104 => ⟨S_, .f32⟩
  | 105 => ⟨S2048x3, .f32⟩
  | 106 => ⟨S2048x3, .f32⟩
  | 107 => ⟨S2048x3, .f32⟩
  | 108 => ⟨S2048x3, .f32⟩
  | 109 => ⟨S2048x3, .f32⟩
  | 110 => ⟨S2048x2048, .f32⟩
  | 111 => ⟨S2048x2048, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S2048x2048, .f32⟩
  | 119 => ⟨S_, .f32⟩
  | 120 => ⟨S2048x2048, .f32⟩
  | 121 => ⟨S2048x2048, .f32⟩
  | 122 => ⟨S_, .f32⟩
  | 123 => ⟨S2048x2048, .f32⟩
  | 124 => ⟨S2048x2048, .f32⟩
  | 125 => ⟨S2048x2048, .f32⟩
  | 126 => ⟨S_, .f32⟩
  | 127 => ⟨S2048x2048, .f32⟩
  | _ => ⟨S2048x3, .f32⟩

abbrev hbmTy0_1 (i : Nat) : BufTy := match i % 128 with
  | 0 => ⟨S2048x2048, .f32⟩
  | 1 => ⟨S_, .f32⟩
  | 2 => ⟨S2048x2048, .f32⟩
  | 3 => ⟨S2048x2048, .f32⟩
  | 4 => ⟨S_, .f32⟩
  | 5 => ⟨S_, .f32⟩
  | 6 => ⟨S2048x2048, .f32⟩
  | 7 => ⟨S2048x2048, .f32⟩
  | 8 => ⟨S2048x2048, .f32⟩
  | 9 => ⟨S_, .f32⟩
  | 10 => ⟨S2048x2048, .f32⟩
  | 11 => ⟨S2048x2048, .f32⟩
  | 12 => ⟨S_, .f32⟩
  | 13 => ⟨S2048x2048, .f32⟩
  | 14 => ⟨S2048x2048, .i1⟩
  | 15 => ⟨S2048x2048, .f32⟩
  | 16 => ⟨S_, .f32⟩
  | 17 => ⟨S_, .f32⟩
  | 18 => ⟨S2048x2048, .f32⟩
  | 19 => ⟨S2048x2048, .i1⟩
  | 20 => ⟨S_, .f32⟩
  | 21 => ⟨S_, .f32⟩
  | 22 => ⟨S2048x2048, .f32⟩
  | 23 => ⟨S2048x2048, .f32⟩
  | 24 => ⟨S2048x2048, .f32⟩
  | 25 => ⟨S2048x2048, .f32⟩
  | 26 => ⟨S2048x2048x1, .f32⟩
  | 27 => ⟨S2048x2048x3, .f32⟩
  | 28 => ⟨S2048x2048x3, .f32⟩
  | 29 => ⟨S2048x2048x1, .f32⟩
  | 30 => ⟨S2048x2048x3, .f32⟩
  | 31 => ⟨S2048x2048x3, .f32⟩
  | 32 => ⟨S1x2048x3, .f32⟩
  | 33 => ⟨S2048x1x3, .f32⟩
  | 34 => ⟨S2048x2048x3, .f32⟩
  | 35 => ⟨S2048x2048x3, .f32⟩
  | 36 => ⟨S2048x2048x3, .f32⟩
  | 37 => ⟨S1x2048, .f32⟩
  | 38 => ⟨S2048x2048x3, .f32⟩
  | 39 => ⟨S_, .f32⟩
  | 40 => ⟨S2048x2048, .f32⟩
  | 41 => ⟨S2048x2048, .f32⟩
  | 42 => ⟨S2048x2048, .f32⟩
  | 43 => ⟨S_, .f32⟩
  | 44 => ⟨S2048, .f32⟩
  | 45 => ⟨S2048, .f32⟩
  | 46 => ⟨S2048, .f32⟩
  | 47 => ⟨S2048, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_call0_v0 : Ref sig .tc := ⟨.hbm, 67, rfl⟩
abbrev main_call0_v1 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_call2_v0 : Ref sig .tc := ⟨.hbm, 83, rfl⟩
abbrev main_call2_v1 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_16 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_cst_21 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_22 : Ref sig .tc := ⟨.hbm, 126, rfl⟩
abbrev main_v88 : Ref sig .tc := ⟨.hbm, 127, rfl⟩
abbrev main_v89 : Ref sig .tc := ⟨.hbm, 128, rfl⟩
abbrev main_cst_23 : Ref sig .tc := ⟨.hbm, 129, rfl⟩
abbrev main_v90 : Ref sig .tc := ⟨.hbm, 130, rfl⟩
abbrev main_v91 : Ref sig .tc := ⟨.hbm, 131, rfl⟩
abbrev main_cst_24 : Ref sig .tc := ⟨.hbm, 132, rfl⟩
abbrev main_call3_v0 : Ref sig .tc := ⟨.hbm, 133, rfl⟩
abbrev main_call3_v1 : Ref sig .tc := ⟨.hbm, 134, rfl⟩
abbrev main_v92 : Ref sig .tc := ⟨.hbm, 135, rfl⟩
abbrev main_v93 : Ref sig .tc := ⟨.hbm, 136, rfl⟩
abbrev main_cst_25 : Ref sig .tc := ⟨.hbm, 137, rfl⟩
abbrev main_v94 : Ref sig .tc := ⟨.hbm, 138, rfl⟩
abbrev main_v95 : Ref sig .tc := ⟨.hbm, 139, rfl⟩
abbrev main_cst_26 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_27 : Ref sig .tc := ⟨.hbm, 145, rfl⟩
abbrev main_v100 : Ref sig .tc := ⟨.hbm, 146, rfl⟩
abbrev main_v101 : Ref sig .tc := ⟨.hbm, 147, rfl⟩
abbrev main_cst_28 : Ref sig .tc := ⟨.hbm, 148, rfl⟩
abbrev main_call5_v0 : Ref sig .tc := ⟨.hbm, 149, rfl⟩
abbrev main_call5_v1 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_29 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_30 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_31 : Ref sig .tc := ⟨.hbm, 176, rfl⟩
abbrev main_v125 : Ref sig .tc := ⟨.hbm, 177, rfl⟩
abbrev main_cst_32 : Ref sig .tc := ⟨.hbm, 178, rfl⟩
abbrev main_v126 : Ref sig .tc := ⟨.hbm, 179, rfl⟩
abbrev main_cst_33 : Ref sig .tc := ⟨.hbm, 180, rfl⟩
abbrev main_v127 : Ref sig .tc := ⟨.hbm, 181, rfl⟩
abbrev main_cst_34 : Ref sig .tc := ⟨.hbm, 182, rfl⟩
abbrev main_v128 : Ref sig .tc := ⟨.hbm, 183, rfl⟩
abbrev main_v129 : Ref sig .tc := ⟨.hbm, 184, rfl⟩
abbrev main_cst_35 : Ref sig .tc := ⟨.hbm, 185, rfl⟩
abbrev main_v130 : Ref sig .tc := ⟨.hbm, 186, rfl⟩
abbrev main_v131 : Ref sig .tc := ⟨.hbm, 187, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit
public import Idealize.ShloMosaic.Lib.Pipeline.ReadBack

/-! What one grid point of the kernel leaves in the output block and in the carried scratch, as terms of the
    operand arrays: the particle state that point 0 fills, and the loss that one block of rows adds. -/

@[expose] public section

set_option maxRecDepth 16384

noncomputable section

namespace Cert.KernelIdeal.Alg

open Idealize.ShloMosaic Idealize.SL.Sem Cert.KernelIdeal Cert.KernelIdeal.Gen

section terms
variable (s : Vec Ideal S1x4 .f32) (P Y X V : Vec Ideal S2048x3 .f32) (L : Vec Ideal S2048x1 .bf16)
  (sd mu : Vec Ideal S1x3 .f32)

/-- The reference density, entry 0 of the scalar row. -/
def scRho : EReal := View.ld s (Rect.unit ![0, 0] ![1, 1] inb_S1x4_S1x1_0_0) (Shape.Idx.first (by decide))
/-- One over the smoothing length, entry 1 of the scalar row. -/
def scHinv : EReal := k0_pay13 (F := Ideal) (View.ld s (Rect.unit ![0, 1] ![1, 1] inb_S1x4_S1x1_0_1) (Shape.Idx.first (by decide)))
/-- One over the time step, entry 2 of the scalar row. -/
def scDtinv : EReal := k0_pay14 (F := Ideal) (View.ld s (Rect.unit ![0, 2] ![1, 1] inb_S1x4_S1x1_0_2) (Shape.Idx.first (by decide)))
/-- The number of boundary particles, entry 3 of the scalar row, as an integer again. -/
def scNbp : BitVec 32 :=
  Scalar.fptosi (F := Ideal) (φ := .f32) 32 (View.ld s (Rect.unit ![0, 3] ![1, 1] inb_S1x4_S1x1_0_3) (Shape.Idx.first (by decide)))

/-- The positions that point 0 stores. -/
def stPos : Vec Ideal S2048x3 .f32 := k0_pay7 (F := Ideal) (scNbp s) Y sd mu X
/-- The velocities that point 0 stores. -/
def stVel : Vec Ideal S2048x3 .f32 := k0_pay8 (F := Ideal) (scNbp s) (scDtinv s) Y sd mu V
/-- The positions, one coordinate to a row. -/
def stPosT : Vec Ideal S3x2048 .f32 := k0_pay9 (F := Ideal) (scNbp s) Y sd mu X
/-- The velocities, one coordinate to a row. -/
def stVelT : Vec Ideal S3x2048 .f32 := k0_pay10 (F := Ideal) (scNbp s) (scDtinv s) Y sd mu V
/-- The stacked right operand of the product of positions. -/
def stA : Vec Ideal S9x2048 .bf16 := k0_pay19 (F := Ideal) (stPosT s Y X sd mu)
/-- The stacked right operand of the mixed products. -/
def stPQ : Vec Ideal S18x2048 .bf16 := k0_pay20 (F := Ideal) (stPosT s Y X sd mu) (stVelT s Y V sd mu)
/-- The squared lengths of the positions, with the guard added. -/
def stR : Vec Ideal S1x2048 .f32 :=
  k0_pay15 (F := Ideal) (k0_pay11 (scNbp s) Y sd mu X) (k0_pay12 (scNbp s) Y sd mu X)
/-- Position times velocity, summed over the coordinates. -/
def stS : Vec Ideal S1x2048 .f32 := k0_pay16 (F := Ideal) (stPosT s Y X sd mu) (stVelT s Y V sd mu)

/-- The rows of grid point `i` of a full array. -/
def rows (i : grid0.Coords) (A : Vec Ideal S2048x3 .f32) : Vec Ideal S1024x3 .f32 :=
  View.ld A (Rect.unit (k0_off1 i) ![1024, 3] (k0_off1_inb i))

/-- What the block of rows at grid point `i` adds to the loss, from the carried scratch. -/
def contribOf (i : grid0.Coords) (xA : Vec Ideal S9x2048 .bf16) (xPQ : Vec Ideal S18x2048 .bf16)
    (xR xS : Vec Ideal S1x2048 .f32) (xp xv : Vec Ideal S2048x3 .f32) : EReal :=
  k0_pay38 (F := Ideal) (scRho s) (scHinv s)
    (k0_pay29 (k0_pay22 (rows i xp)) (k0_pay26 (rows i xp) xA) xR)
    (k0_pay35 (scHinv s) (k0_pay22 (rows i xp)) (k0_pay26 (rows i xp) xA) xR)
    (k0_pay36 (scHinv s) (k0_pay22 (rows i xp)) (k0_pay26 (rows i xp) xA) xR)
    (k0_pay37 (k0_pay23 (rows i xp) (rows i xv)) (k0_pay27 (rows i xp) (rows i xv) xPQ) xS)
    L (rows i Y) (rows i P)

end terms

variable (m : (ℓ : Loc nD τ sig) → Buf (Elt Ideal) ℓ)

/-- At the first grid point the kernel leaves its contribution added to zero, and the arrays that it carries on. -/
theorem fstA (c : Dev nD) (t : Fin cfg0.N) (h0 : t.val % 2 = 0) :
    outsAt0 m c t.val t.isLt =
     (let s : Vec Ideal S1x4 .f32 := iblk m c 0 t
      let P : Vec Ideal S2048x3 .f32 := iblk m c 1 t
      let Y : Vec Ideal S2048x3 .f32 := iblk m c 2 t
      let X : Vec Ideal S2048x3 .f32 := iblk m c 3 t
      let V : Vec Ideal S2048x3 .f32 := iblk m c 4 t
      let L : Vec Ideal S2048x1 .bf16 := iblk m c 5 t
      let sd : Vec Ideal S1x3 .f32 := iblk m c 6 t
      let mu : Vec Ideal S1x3 .f32 := iblk m c 7 t
      (k0_pay1 (F := Ideal) (contribOf s P Y L (grid0.coords t) (stA s Y X sd mu) (stPQ s Y X V sd mu)
        (stR s Y X sd mu) (stS s Y X V sd mu) (stPos s Y X sd mu) (stVel s Y V sd mu)) (k0_pay21 (F := Ideal)),
       stA s Y X sd mu, stPQ s Y X V sd mu, stR s Y X sd mu, stS s Y X V sd mu, stPos s Y X sd mu,
       stVel s Y V sd mu)) := by
  rw [outsAt0_A m c t h0]
  refine Prod.ext ?_ (Prod.ext ?_ (Prod.ext ?_ (Prod.ext ?_ (Prod.ext ?_ (Prod.ext ?_ ?_)))))
  all_goals (frame_out; rfl)

/-- At the second grid point the kernel leaves its contribution, from the carried arrays, added to the carried sum. -/
theorem fstB (c : Dev nD) (t : Fin cfg0.N) (h0 : ¬ t.val % 2 = 0) :
    (outsAt0 m c t.val t.isLt).1 =
     (let s : Vec Ideal S1x4 .f32 := iblk m c 0 t
      let P : Vec Ideal S2048x3 .f32 := iblk m c 1 t
      let Y : Vec Ideal S2048x3 .f32 := iblk m c 2 t
      let L : Vec Ideal S2048x1 .bf16 := iblk m c 5 t
      let o := outsAt0 m c (t.val - 1) (Nat.lt_of_le_of_lt (Nat.sub_le ..) t.isLt)
      k0_pay1 (F := Ideal) (contribOf s P Y L (grid0.coords t) o.2.1 o.2.2.1 o.2.2.2.1 o.2.2.2.2.1 o.2.2.2.2.2.1
        o.2.2.2.2.2.2) o.1) := by
  rw [outsAt0_B m c t h0]
  frame_out
  simp only [read_unread_whole]
  rfl

end Cert.KernelIdeal.Alg
-- ==== Proof.Operands.lean ====
module

public import proofs.«01_k».proof.Proof.Block
public import Idealize.ShloMosaic.PureOps.Ideal

/-! The operand blocks of the launch as the arguments: every input window is its whole array, at each grid point. -/

@[expose] public section

set_option maxRecDepth 16384

noncomputable section

namespace Cert.KernelIdeal.Alg

open Idealize.ShloMosaic Idealize.SL.Sem Cert.KernelIdeal Cert.KernelIdeal.Gen

variable (m : (ℓ : Loc nD τ sig) → Buf (Elt Ideal) ℓ)

/-- Every input window stands at block zero, at each grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := by decide +kernel

/-- The prediction block is the prediction array. -/
theorem blk1 (c : Dev nD) (t : Fin cfg0.N) :
    (iblk m c 1 t : Vec Ideal S2048x3 .f32) = m ((c.tc : Thread nD τ).loc main_arg0) := by
  funext y; blk_ext [iblk, V, idx t]
/-- The target block is the target array. -/
theorem blk2 (c : Dev nD) (t : Fin cfg0.N) :
    (iblk m c 2 t : Vec Ideal S2048x3 .f32) = m ((c.tc : Thread nD τ).loc main_arg1) := by
  funext y; blk_ext [iblk, V, idx t]
/-- The block of middle positions is their array. -/
theorem blk3 (c : Dev nD) (t : Fin cfg0.N) :
    (iblk m c 3 t : Vec Ideal S2048x3 .f32) = m ((c.tc : Thread nD τ).loc main_arg2) := by
  funext y; blk_ext [iblk, V, idx t]
/-- The block of middle velocities is their array. -/
theorem blk4 (c : Dev nD) (t : Fin cfg0.N) :
    (iblk m c 4 t : Vec Ideal S2048x3 .f32) = m ((c.tc : Thread nD τ).loc main_arg3) := by
  funext y; blk_ext [iblk, V, idx t]

/-- The scalar row at entry of the launch: density, smoothing length, time step, boundary count. -/
theorem v14 (c : Dev nD) : V m c main_v14 = shapeCast S1x4 (concatenate S4 0
    [⟨S1, (broadcastInDim S1 ![] bcast_S_S1 (m ((c.tc : Thread nD τ).loc main_arg5)) : FVec Ideal S1 .f32)⟩,
     ⟨S1, (broadcastInDim S1 ![] bcast_S_S1 (m ((c.tc : Thread nD τ).loc main_arg6)) : FVec Ideal S1 .f32)⟩,
     ⟨S1, (broadcastInDim S1 ![] bcast_S_S1 (m ((c.tc : Thread nD τ).loc main_arg7)) : FVec Ideal S1 .f32)⟩,
     ⟨S1, (broadcastInDim S1 ![] bcast_S_S1 (sitofp (F := Ideal) .f32 (m ((c.tc : Thread nD τ).loc main_arg10))) : FVec Ideal S1 .f32)⟩]
    concatenates_S1_S1_S1_S1_S4_d0) shapeCasts_S4_S1x4 := by
  unfold_abbrev_sides
  simp only [List.flatten_cons, List.flatten_nil, List.append_nil]
  after_results
  rfl
/-- The volumes at entry of the launch: times the normalisation of the smoothing kernel. -/
theorem v7 (c : Dev nD) : V m c main_v7 = shapeCast S2048x1 (truncf (F := Ideal) .bf16
    (mulf (m ((c.tc : Thread nD τ).loc main_arg4)) (broadcastInDim S2048 ![] bcast_S_S2048
      (Host.divf (constant S_ .f32 0x41000000#32) (mulf (mulf (mulf (constant S_ .f32 0x40490FDB#32)
        (m ((c.tc : Thread nD τ).loc main_arg6))) (m ((c.tc : Thread nD τ).loc main_arg6)))
        (m ((c.tc : Thread nD τ).loc main_arg6)))))) bitsLt_bf16_f32) shapeCasts_S2048_S2048x1 := by
  unfold_abbrev_sides
  simp only [List.flatten_cons, List.flatten_nil, List.append_nil]
  after_results
  rfl
/-- The deviations at entry of the launch. -/
theorem v15 (c : Dev nD) :
    V m c main_v15 = shapeCast S1x3 (m ((c.tc : Thread nD τ).loc main_arg9) : FVec Ideal S3 .f32) shapeCasts_S3_S1x3 := by
  unfold_abbrev_sides
  simp only [List.flatten_cons, List.flatten_nil, List.append_nil]
  after_results
  rfl
/-- The means at entry of the launch. -/
theorem v16 (c : Dev nD) :
    V m c main_v16 = shapeCast S1x3 (m ((c.tc : Thread nD τ).loc main_arg8) : FVec Ideal S3 .f32) shapeCasts_S3_S1x3 := by
  unfold_abbrev_sides
  simp only [List.flatten_cons, List.flatten_nil, List.append_nil]
  after_results
  rfl

/-- The block of scalars is the scalar row at entry of the launch. -/
theorem blk0 (c : Dev nD) (t : Fin cfg0.N) : (iblk m c 0 t : Vec Ideal S1x4 .f32) = V m c main_v14 := by
  funext y; blk_ext [iblk, idx t]
/-- The block of volumes is the scaled volumes at entry of the launch. -/
theorem blk5 (c : Dev nD) (t : Fin cfg0.N) : (iblk m c 5 t : Vec Ideal S2048x1 .bf16) = V m c main_v7 := by
  funext y; blk_ext [iblk, idx t]
/-- The block of deviations is their row at entry of the launch. -/
theorem blk6 (c : Dev nD) (t : Fin cfg0.N) : (iblk m c 6 t : Vec Ideal S1x3 .f32) = V m c main_v15 := by
  funext y; blk_ext [iblk, idx t]
/-- The block of means is their row at entry of the launch. -/
theorem blk7 (c : Dev nD) (t : Fin cfg0.N) : (iblk m c 7 t : Vec Ideal S1x3 .f32) = V m c main_v16 := by
  funext y; blk_ext [iblk, idx t]

end Cert.KernelIdeal.Alg
-- ==== Proof.Model.lean ====
module

public import Idealize.ShloMosaic.PureOps.Ideal
public import Idealize.ShloMosaic.PureOps.Ideal.Laws
public import Idealize.ShloMosaic.Lib.IdealHost

/-! The particle loss in real numbers: the pairwise distance, the cubic spline, its derivative, and the mixed product
    of velocities and positions; and the extended-real identities the two programs' sums are compared by. -/

@[expose] public section

noncomputable section

namespace Cert.Sph

open Idealize.ShloMosaic

/-! ## The literals -/

/-- The guard under the square root, the real value of its float word. -/
def eps : ℝ := 9223372 * 2 ^ (-63 : ℤ)

/-- The guard under the root is positive. -/
theorem eps_pos : 0 < eps := by unfold eps; positivity
/-- The word of the guard denotes `eps`. -/
theorem eps_lit : Ideal.ofBits .f32 0x2B8CBCCC#32 = ((eps : ℝ) : EReal) := by
  simp [Ideal.ofBits, Ideal.ieee, eps, -EReal.coe_mul]
/-- The circle constant, the real value of its float word. -/
def piLit : ℝ := 13176795 * 2 ^ (-22 : ℤ)
/-- The rounded π is positive. -/
theorem piLit_pos : 0 < piLit := by unfold piLit; positivity
/-- The word of π denotes `piLit`. -/
theorem pi_lit : Ideal.ofBits .f32 0x40490FDB#32 = ((piLit : ℝ) : EReal) := by
  simp [Ideal.ofBits, Ideal.ieee, piLit, -EReal.coe_mul]
/-- The bf16 word of one half. -/
theorem half_bf16 : Ideal.ofBits .bf16 0x3F00#16 = ((1 / 2 : ℝ) : EReal) := by
  simp [Ideal.ofBits, Ideal.ieee, -EReal.coe_mul]; norm_num
/-- The f32 word of one half. -/
theorem half_f32 : Ideal.ofBits .f32 0x3F000000#32 = ((1 / 2 : ℝ) : EReal) := by
  simp [Ideal.ofBits, Ideal.ieee, -EReal.coe_mul]; norm_num
/-- The bf16 word of two. -/
theorem two_bf16 : Ideal.ofBits .bf16 0x4000#16 = ((2 : ℝ) : EReal) := by
  simp [Ideal.ofBits, Ideal.ieee, -EReal.coe_mul]; norm_num
/-- The f32 word of two. -/
theorem two_f32 : Ideal.ofBits .f32 0x40000000#32 = ((2 : ℝ) : EReal) := by
  simp [Ideal.ofBits, Ideal.ieee, -EReal.coe_mul]; norm_num
/-- The f32 word of three. -/
theorem three_f32 : Ideal.ofBits .f32 0x40400000#32 = ((3 : ℝ) : EReal) := by
  simp [Ideal.ofBits, Ideal.ieee, -EReal.coe_mul]; norm_num
/-- The bf16 word of six. -/
theorem six_bf16 : Ideal.ofBits .bf16 0x40C0#16 = ((6 : ℝ) : EReal) := by
  simp [Ideal.ofBits, Ideal.ieee, -EReal.coe_mul]; norm_num
/-- The f32 word of six. -/
theorem six_f32 : Ideal.ofBits .f32 0x40C00000#32 = ((6 : ℝ) : EReal) := by
  simp [Ideal.ofBits, Ideal.ieee, -EReal.coe_mul]; norm_num
/-- The bf16 word of minus six. -/
theorem negSix_bf16 : Ideal.ofBits .bf16 0xC0C0#16 = ((-6 : ℝ) : EReal) := by
  simp [Ideal.ofBits, Ideal.ieee, -EReal.coe_mul, -EReal.coe_neg]; norm_num
/-- The f32 word of minus six. -/
theorem negSix_f32 : Ideal.ofBits .f32 0xC0C00000#32 = ((-6 : ℝ) : EReal) := by
  simp [Ideal.ofBits, Ideal.ieee, -EReal.coe_mul, -EReal.coe_neg]; norm_num
/-- The bf16 word of eighteen. -/
theorem eighteen_bf16 : Ideal.ofBits .bf16 0x4190#16 = ((18 : ℝ) : EReal) := by
  simp [Ideal.ofBits, Ideal.ieee, -EReal.coe_mul]; norm_num
/-- The bf16 word of twelve. -/
theorem twelve_bf16 : Ideal.ofBits .bf16 0x4140#16 = ((12 : ℝ) : EReal) := by
  simp [Ideal.ofBits, Ideal.ieee, -EReal.coe_mul]; norm_num
/-- The f32 word of eight. -/
theorem eight_f32 : Ideal.ofBits .f32 0x41000000#32 = ((8 : ℝ) : EReal) := by
  simp [Ideal.ofBits, Ideal.ieee, -EReal.coe_mul]; norm_num
/-- The f32 word of the number of particles. -/
theorem n_f32 : Ideal.ofBits .f32 0x45000000#32 = ((2048 : ℝ) : EReal) := by
  simp [Ideal.ofBits, Ideal.ieee, -EReal.coe_mul]; norm_num

/-! ## The real functions -/

/-- The guarded squared distance of particles `i` and `j`. -/
def D (p : Fin 2048 → Fin 3 → ℝ) (i j : Fin 2048) : ℝ := ∑ k, (p i k - p j k) ^ 2 + eps
/-- The distance of particles `i` and `j`. -/
def sep (p : Fin 2048 → Fin 3 → ℝ) (i j : Fin 2048) : ℝ := Real.sqrt (D p i j)
/-- The cubic spline without its normalisation; the far branch is zero from 1 on. -/
def wf (q : ℝ) : ℝ := if q ≤ 1 / 2 then 6 * (q ^ 3 - q ^ 2) + 1 else 2 * max (1 - q) 0 ^ 3
/-- The derivative of the cubic spline without its normalisation. -/
def gf (q : ℝ) : ℝ := if q ≤ 1 / 2 then 18 * q ^ 2 - 12 * q else -6 * max (1 - q) 0 ^ 2
/-- The velocity difference times the position difference. -/
def dot (p v : Fin 2048 → Fin 3 → ℝ) (i j : Fin 2048) : ℝ := ∑ k, (v j k - v i k) * (p i k - p j k)

/-- The guarded squared distance is positive. -/
theorem D_pos (p : Fin 2048 → Fin 3 → ℝ) (i j : Fin 2048) : 0 < D p i j := by
  have : 0 ≤ ∑ k, (p i k - p j k) ^ 2 := Finset.sum_nonneg fun k _ => sq_nonneg _
  have := eps_pos
  unfold D; linarith
/-- The guarded distance is positive. -/
theorem sep_pos (p : Fin 2048 → Fin 3 → ℝ) (i j : Fin 2048) : 0 < sep p i j := Real.sqrt_pos.mpr (D_pos p i j)

/-! ## Extended reals -/

/-- Absolute value as both programs take it. -/
def eabs (x : EReal) : EReal := max x (-x)

/-- An absolute value is not negative. -/
theorem eabs_nonneg (x : EReal) : 0 ≤ eabs x := by
  unfold eabs
  rcases le_total 0 x with h | h
  · exact le_max_of_le_left h
  · exact le_max_of_le_right (by simpa using EReal.neg_le_neg_iff.mpr h)

/-- A value and its negative have the same absolute value. -/
theorem eabs_neg (x : EReal) : eabs (-x) = eabs x := by simp [eabs, max_comm]

/-- The larger of a real and zero, taken in the extended reals. -/
theorem coe_max_zero (x : ℝ) : max (x : EReal) 0 = ((max x 0 : ℝ) : EReal) :=
  (EReal.coe_strictMono.monotone.map_max (a := x) (b := 0)).symm

/-- The reciprocal root of a positive real. -/
theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg h.not_gt, if_neg h.ne']

/-- The root of a positive real. -/
theorem sqrt_coe {r : ℝ} (h : 0 < r) : Ideal.sqrt (r : EReal) = ((Real.sqrt r : ℝ) : EReal) := by
  show (if r < 0 then (⊥ : EReal) else ((Real.sqrt r : ℝ) : EReal)) = _
  rw [if_neg h.not_gt]

/-- The sum of the opposites is the opposite of the sum, or both sums are `⊥`. -/
theorem sum_neg_or {ι : Type*} [DecidableEq ι] (s : Finset ι) (u : ι → EReal) :
    (∑ j ∈ s, -u j) = -(∑ j ∈ s, u j) ∨ ((∑ j ∈ s, u j) = ⊥ ∧ (∑ j ∈ s, -u j) = ⊥) := by
  induction s using Finset.induction_on with
  | empty => left; simp
  | insert a s ha ih =>
    rw [Finset.sum_insert ha, Finset.sum_insert ha]
    rcases ih with h | ⟨h1, h2⟩
    · rw [h]
      generalize (∑ j ∈ s, u j) = S
      generalize u a = x
      induction x <;> induction S
      all_goals first
        | (right; simp; done)
        | (left; simp; done)
        | (left; norm_cast; ring)
    · right; rw [h1, h2]; simp

/-- A sum and the sum of the negatives have the same absolute value, infinities included. -/
theorem eabs_sum_neg {ι : Type*} [DecidableEq ι] (s : Finset ι) (u : ι → EReal) :
    eabs (∑ j ∈ s, -u j) = eabs (∑ j ∈ s, u j) := by
  rcases sum_neg_or s u with h | ⟨h1, h2⟩
  · rw [h, eabs_neg]
  · rw [h1, h2]

/-- A real that is not negative may be multiplied into a sum of extended reals. -/
theorem mul_sum_of_nonneg {ι : Type*} [DecidableEq ι] (s : Finset ι) (a : ℝ) (ha : 0 ≤ a) (t : ι → EReal) :
    (a : EReal) * ∑ j ∈ s, t j = ∑ j ∈ s, (a : EReal) * t j := by
  induction s using Finset.induction_on with
  | empty => simp
  | insert b s hb ih =>
    rw [Finset.sum_insert hb, Finset.sum_insert hb,
      EReal.left_distrib_of_nonneg_of_ne_top (by exact_mod_cast ha) (EReal.coe_ne_top a), ih]

/-- A real factor moves into a sum under the absolute value, whatever infinities the sum holds. -/
theorem eabs_mul_sum {ι : Type*} [DecidableEq ι] (s : Finset ι) (a : ℝ) (t : ι → EReal) :
    eabs ((a : EReal) * ∑ j ∈ s, t j) = eabs (∑ j ∈ s, (a : EReal) * t j) := by
  rcases le_total 0 a with ha | ha
  · rw [mul_sum_of_nonneg s a ha]
  · have e : (a : EReal) = -((-a : ℝ) : EReal) := by push_cast; simp
    rw [e]
    simp only [EReal.neg_mul]
    rw [eabs_neg, eabs_sum_neg, mul_sum_of_nonneg s (-a) (by linarith)]

/-- Equal absolute values stay equal under a common factor. -/
theorem eabs_mul_congr (r : EReal) {x y : EReal} (h : eabs x = eabs y) : eabs (r * x) = eabs (r * y) := by
  have key : x = y ∨ x = -y := by
    unfold eabs at h
    rcases max_choice x (-x) with h1 | h1 <;> rcases max_choice y (-y) with h2 | h2 <;> rw [h1, h2] at h
    · left; exact h
    · right; exact h
    · right; rw [← h]; simp
    · left; simpa using congrArg Neg.neg h
  rcases key with rfl | rfl
  · rfl
  · rw [mul_comm, EReal.neg_mul, eabs_neg, mul_comm]

end Cert.Sph
-- ==== Proof.Finite.lean ====
module

public import proofs.«01_k».proof.Proof.Model

/-! Which extended reals are real numbers. -/

@[expose] public section

noncomputable section

namespace Cert.Sph

open Idealize.ShloMosaic

/-- The value is a real number. -/
def IsReal (x : EReal) : Prop := ∃ r : ℝ, x = (r : EReal)

/-- A value whose absolute value is below infinity is a real number. -/
theorem isReal_of_lt {x : EReal} (h : max x (-x) < ⊤) : IsReal x := by
  induction x with
  | bot => simp at h
  | top => simp at h
  | coe r => exact ⟨r, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, by norm_cast⟩

/-- A product of two reals is real. -/
theorem IsReal.mul {x y : EReal} (hx : IsReal x) (hy : IsReal y) : IsReal (x * y) := by
  obtain ⟨a, rfl⟩ := hx
  obtain ⟨b, rfl⟩ := hy
  exact ⟨a * b, by norm_cast⟩

/-- The inverse of any value is real: that of an infinity is zero. -/
theorem isReal_inv (x : EReal) : IsReal x⁻¹ := by
  induction x with
  | bot => exact ⟨0, by simp⟩
  | top => exact ⟨0, by simp⟩
  | coe r => exact ⟨r⁻¹, by norm_cast⟩

/-- A real over a nonzero value is real. -/
theorem IsReal.div {x y : EReal} (hx : IsReal x) (hy : y ≠ 0) : IsReal (Ideal.div x y) := by
  rw [Ideal.div, if_neg hy]
  exact hx.mul (isReal_inv y)

/-- A truth value read as a number is real. -/
theorem isReal_uitofp (b : BitVec 1) : IsReal (FloatOps.uitofp (F := Ideal) .f32 b) := ⟨_, rfl⟩

/-- Selecting a value or zero by a truth value is multiplying by the truth value read as a number. -/
theorem select_eq_mul (b : BitVec 1) (x : EReal) :
    Scalar.select b x 0 = FloatOps.uitofp (F := Ideal) .f32 b * x := by
  have h : FloatOps.uitofp (F := Ideal) .f32 b = ((b.toNat : ℝ) : EReal) := rfl
  rw [h]
  rcases (show ∀ b : BitVec 1, b = 0#1 ∨ b = 1#1 by decide) b with rfl | rfl <;> simp [Scalar.select]

/-- A signed word read as a number and cut back to a word is the word. -/
theorem fptosi_sitofp (n : BitVec 32) : Ideal.fptosi 32 (FloatOps.sitofp (F := Ideal) .f32 n) = n := by
  have h : FloatOps.sitofp (F := Ideal) .f32 n = ((n.toInt : ℝ) : EReal) := rfl
  rw [h, Ideal.fptosi, Ideal.toIntClamped_coe]
  have h1 := BitVec.le_toInt n
  have h2 := BitVec.toInt_lt (x := n)
  simp only [Int.floor_intCast, Int.ceil_intCast, ite_self]
  rw [min_eq_right, max_eq_right, BitVec.ofInt_toInt]
  · norm_num at h1 ⊢; omega
  · norm_num at h2 ⊢; omega

end Cert.Sph
-- ==== Proof.RefTerms.lean ====
module

public import proofs.«01_k».proof.Proof.Gen.ReferenceIdeal.Run
public import Idealize.ShloMosaic.PureOps.Ideal

/-! The reference's result as a tower of named arrays: positions, distances, spline values, losses. -/

@[expose] public section

set_option maxRecDepth 16384

noncomputable section

namespace Cert.ReferenceIdeal.Alg

open Idealize.ShloMosaic Idealize.SL.Sem Cert.ReferenceIdeal Cert.ReferenceIdeal.Value Cert.ReferenceIdeal.Gen

/-- The targets with the standardisation undone. -/
def refInv (a1 : FVec Ideal S2048x3 .f32) (a8 : FVec Ideal S3 .f32) (a9 : FVec Ideal S3 .f32) : FVec Ideal
    S2048x3 .f32 :=
  addf (mulf a1 (broadcastInDim S2048x3 ![0, 1] bcast_S1x3_S2048x3_0_1 (broadcastInDim S1x3 ![1] bcast_S3_S1x3_1
    a9))) (broadcastInDim S2048x3 ![0, 1] bcast_S1x3_S2048x3_0_1 (broadcastInDim S1x3 ![1] bcast_S3_S1x3_1 a8))

/-- One for a particle that moves, zero for a boundary particle. -/
def refFree (a10 : IVec S_ 32) : FVec Ideal S2048 .f32 :=
  uitofp .f32 (cmpi .sge (iotaInDim S2048 32 0) (broadcastInDim S2048 ![] bcast_S_S2048 a10))

/-- The advanced positions. -/
def refPos (a1 : FVec Ideal S2048x3 .f32) (a2 : FVec Ideal S2048x3 .f32) (a8 : FVec Ideal S3 .f32) (a9 : FVec
    Ideal S3 .f32) (a10 : IVec S_ 32) : FVec Ideal S2048x3 .f32 :=
  addf a2 (mulf (broadcastInDim S2048x3 ![0, 1] bcast_S2048x1_S2048x3_0_1 (broadcastInDim S2048x1 ![0]
    bcast_S2048_S2048x1_0 (refFree a10))) (refInv a1 a8 a9))

/-- The advanced velocities. -/
def refVel (a1 : FVec Ideal S2048x3 .f32) (a3 : FVec Ideal S2048x3 .f32) (a7 : FVec Ideal S_ .f32) (a8 : FVec
    Ideal S3 .f32) (a9 : FVec Ideal S3 .f32) (a10 : IVec S_ 32) : FVec Ideal S2048x3 .f32 :=
  addf a3 (mulf (broadcastInDim S2048x3 ![0, 1] bcast_S2048x1_S2048x3_0_1 (broadcastInDim S2048x1 ![0]
    bcast_S2048_S2048x1_0 (refFree a10))) (Host.divf (refInv a1 a8 a9) (broadcastInDim S2048x3 ![]
    bcast_S_S2048x3 a7)))

/-- Position differences of all pairs. -/
def refDiff (a1 : FVec Ideal S2048x3 .f32) (a2 : FVec Ideal S2048x3 .f32) (a8 : FVec Ideal S3 .f32) (a9 : FVec
    Ideal S3 .f32) (a10 : IVec S_ 32) : FVec Ideal S2048x2048x3 .f32 :=
  subf (broadcastInDim S2048x2048x3 ![0, 1, 2] bcast_S2048x1x3_S2048x2048x3_0_1_2 (broadcastInDim S2048x1x3 ![0,
    2] bcast_S2048x3_S2048x1x3_0_2 (refPos a1 a2 a8 a9 a10))) (broadcastInDim S2048x2048x3 ![0, 1, 2]
    bcast_S1x2048x3_S2048x2048x3_0_1_2 (broadcastInDim S1x2048x3 ![1, 2] bcast_S2048x3_S1x2048x3_1_2 (refPos a1
    a2 a8 a9 a10)))

/-- Distances of all pairs, guarded under the root. -/
def refD (a1 : FVec Ideal S2048x3 .f32) (a2 : FVec Ideal S2048x3 .f32) (a8 : FVec Ideal S3 .f32) (a9 : FVec
    Ideal S3 .f32) (a10 : IVec S_ 32) : FVec Ideal S2048x2048 .f32 :=
  Host.sqrt (addf (Host.reduceAdd (mulf (refDiff a1 a2 a8 a9 a10) (refDiff a1 a2 a8 a9 a10)) (constant S_ .f32
    0x00000000#32) reducesTo_S2048x2048x3_S2048x2048_d2 h_S_) (broadcastInDim S2048x2048 ![] bcast_S_S2048x2048
    (constant S_ .f32 0x2B8CBCCC#32)))

/-- Distances over the smoothing length. -/
def refQ (a1 : FVec Ideal S2048x3 .f32) (a2 : FVec Ideal S2048x3 .f32) (a6 : FVec Ideal S_ .f32) (a8 : FVec
    Ideal S3 .f32) (a9 : FVec Ideal S3 .f32) (a10 : IVec S_ 32) : FVec Ideal S2048x2048 .f32 :=
  Host.divf (refD a1 a2 a8 a9 a10) (broadcastInDim S2048x2048 ![] bcast_S_S2048x2048 a6)

/-- The spline's normalisation. -/
def refSigma (a6 : FVec Ideal S_ .f32) : FVec Ideal S_ .f32 :=
  Host.divf (constant S_ .f32 0x41000000#32) (mulf (constant S_ .f32 0x40490FDB#32) (mulf (mulf a6 a6) a6))

/-- One less the scaled distance, not below zero. -/
def refFar (a1 : FVec Ideal S2048x3 .f32) (a2 : FVec Ideal S2048x3 .f32) (a6 : FVec Ideal S_ .f32) (a8 : FVec
    Ideal S3 .f32) (a9 : FVec Ideal S3 .f32) (a10 : IVec S_ 32) : FVec Ideal S2048x2048 .f32 :=
  maximumf (broadcastInDim S2048x2048 ![] bcast_S_S2048x2048 (id (constant S_ .f32 0x00000000#32))) (subf
    (broadcastInDim S2048x2048 ![] bcast_S_S2048x2048 (constant S_ .f32 0x3F800000#32)) (refQ a1 a2 a6 a8 a9
    a10))

/-- The spline of all pairs, without its normalisation. -/
def refW (a1 : FVec Ideal S2048x3 .f32) (a2 : FVec Ideal S2048x3 .f32) (a6 : FVec Ideal S_ .f32) (a8 : FVec
    Ideal S3 .f32) (a9 : FVec Ideal S3 .f32) (a10 : IVec S_ 32) : FVec Ideal S2048x2048 .f32 :=
  select (cmpf .ole (refQ a1 a2 a6 a8 a9 a10) (broadcastInDim S2048x2048 ![] bcast_S_S2048x2048 (constant S_
    .f32 0x3F800000#32))) (select (cmpf .ole (refQ a1 a2 a6 a8 a9 a10) (broadcastInDim S2048x2048 ![]
    bcast_S_S2048x2048 (constant S_ .f32 0x3F000000#32))) (addf (mulf (broadcastInDim S2048x2048 ![]
    bcast_S_S2048x2048 (constant S_ .f32 0x40C00000#32)) (subf (mulf (mulf (refQ a1 a2 a6 a8 a9 a10) (refQ a1 a2
    a6 a8 a9 a10)) (refQ a1 a2 a6 a8 a9 a10)) (mulf (refQ a1 a2 a6 a8 a9 a10) (refQ a1 a2 a6 a8 a9 a10))))
    (broadcastInDim S2048x2048 ![] bcast_S_S2048x2048 (constant S_ .f32 0x3F800000#32))) (mulf (broadcastInDim
    S2048x2048 ![] bcast_S_S2048x2048 (constant S_ .f32 0x40000000#32)) (mulf (mulf (refFar a1 a2 a6 a8 a9 a10)
    (refFar a1 a2 a6 a8 a9 a10)) (refFar a1 a2 a6 a8 a9 a10)))) (broadcastInDim S2048x2048 ![]
    bcast_S_S2048x2048 (id (constant S_ .f32 0x00000000#32)))

/-- The spline's derivative of all pairs, without its normalisation. -/
def refG (a1 : FVec Ideal S2048x3 .f32) (a2 : FVec Ideal S2048x3 .f32) (a6 : FVec Ideal S_ .f32) (a8 : FVec
    Ideal S3 .f32) (a9 : FVec Ideal S3 .f32) (a10 : IVec S_ 32) : FVec Ideal S2048x2048 .f32 :=
  select (cmpf .ole (refQ a1 a2 a6 a8 a9 a10) (broadcastInDim S2048x2048 ![] bcast_S_S2048x2048 (constant S_
    .f32 0x3F800000#32))) (select (cmpf .ole (refQ a1 a2 a6 a8 a9 a10) (broadcastInDim S2048x2048 ![]
    bcast_S_S2048x2048 (constant S_ .f32 0x3F000000#32))) (mulf (broadcastInDim S2048x2048 ![]
    bcast_S_S2048x2048 (constant S_ .f32 0x40C00000#32)) (subf (mulf (broadcastInDim S2048x2048 ![]
    bcast_S_S2048x2048 (constant S_ .f32 0x40400000#32)) (mulf (refQ a1 a2 a6 a8 a9 a10) (refQ a1 a2 a6 a8 a9
    a10))) (mulf (broadcastInDim S2048x2048 ![] bcast_S_S2048x2048 (constant S_ .f32 0x40000000#32)) (refQ a1 a2
    a6 a8 a9 a10)))) (mulf (broadcastInDim S2048x2048 ![] bcast_S_S2048x2048 (constant S_ .f32 0xC0C00000#32))
    (mulf (refFar a1 a2 a6 a8 a9 a10) (refFar a1 a2 a6 a8 a9 a10)))) (broadcastInDim S2048x2048 ![]
    bcast_S_S2048x2048 (id (constant S_ .f32 0x00000000#32)))

/-- Velocity difference times kernel gradient, of all pairs. -/
def refDot (a1 : FVec Ideal S2048x3 .f32) (a2 : FVec Ideal S2048x3 .f32) (a3 : FVec Ideal S2048x3 .f32) (a6 :
    FVec Ideal S_ .f32) (a7 : FVec Ideal S_ .f32) (a8 : FVec Ideal S3 .f32) (a9 : FVec Ideal S3 .f32) (a10 :
    IVec S_ 32) : FVec Ideal S2048x2048 .f32 :=
  Host.reduceAdd (mulf (subf (broadcastInDim S2048x2048x3 ![0, 1, 2] bcast_S1x2048x3_S2048x2048x3_0_1_2
    (broadcastInDim S1x2048x3 ![1, 2] bcast_S2048x3_S1x2048x3_1_2 (refVel a1 a3 a7 a8 a9 a10))) (broadcastInDim
    S2048x2048x3 ![0, 1, 2] bcast_S2048x1x3_S2048x2048x3_0_1_2 (broadcastInDim S2048x1x3 ![0, 2]
    bcast_S2048x3_S2048x1x3_0_2 (refVel a1 a3 a7 a8 a9 a10)))) (mulf (broadcastInDim S2048x2048x3 ![0, 1, 2]
    bcast_S2048x2048x1_S2048x2048x3_0_1_2 (broadcastInDim S2048x2048x1 ![0, 1] bcast_S2048x2048_S2048x2048x1_0_1
    (mulf (broadcastInDim S2048x2048 ![] bcast_S_S2048x2048 (Host.divf (refSigma a6) a6)) (refG a1 a2 a6 a8 a9
    a10)))) (Host.divf (refDiff a1 a2 a8 a9 a10) (broadcastInDim S2048x2048x3 ![0, 1, 2]
    bcast_S2048x2048x1_S2048x2048x3_0_1_2 (broadcastInDim S2048x2048x1 ![0, 1] bcast_S2048x2048_S2048x2048x1_0_1
    (refD a1 a2 a8 a9 a10)))))) (constant S_ .f32 0x00000000#32) reducesTo_S2048x2048x3_S2048x2048_d2 h_S_

/-- The sum of squared errors. -/
def refSq (a0 : FVec Ideal S2048x3 .f32) (a1 : FVec Ideal S2048x3 .f32) : FVec Ideal S_ .f32 :=
  Host.reduceAdd (Host.reduceAdd (mulf (subf a1 a0) (subf a1 a0)) (constant S_ .f32 0x00000000#32)
    reducesTo_S2048x3_S2048_d1 h_S_) (constant S_ .f32 0x00000000#32) reducesTo_S2048_S_d0 h_S_

/-- The absolute relative compression of each particle. -/
def refCmp (a1 : FVec Ideal S2048x3 .f32) (a2 : FVec Ideal S2048x3 .f32) (a4 : FVec Ideal S2048 .f32) (a5 : FVec
    Ideal S_ .f32) (a6 : FVec Ideal S_ .f32) (a8 : FVec Ideal S3 .f32) (a9 : FVec Ideal S3 .f32) (a10 : IVec S_
    32) : FVec Ideal S2048 .f32 :=
  Host.absf (subf (Host.divf (mulf (broadcastInDim S2048 ![] bcast_S_S2048 a5) (Host.reduceAdd (mulf
    (broadcastInDim S2048x2048 ![0, 1] bcast_S1x2048_S2048x2048_0_1 (broadcastInDim S1x2048 ![1]
    bcast_S2048_S1x2048_1 a4)) (mulf (broadcastInDim S2048x2048 ![] bcast_S_S2048x2048 (refSigma a6)) (refW a1
    a2 a6 a8 a9 a10))) (constant S_ .f32 0x00000000#32) reducesTo_S2048x2048_S2048_d1 h_S_)) (broadcastInDim
    S2048 ![] bcast_S_S2048 a5)) (broadcastInDim S2048 ![] bcast_S_S2048 (constant S_ .f32 0x3F800000#32)))

/-- The absolute divergence of each particle. -/
def refDiv (a1 : FVec Ideal S2048x3 .f32) (a2 : FVec Ideal S2048x3 .f32) (a3 : FVec Ideal S2048x3 .f32) (a4 :
    FVec Ideal S2048 .f32) (a5 : FVec Ideal S_ .f32) (a6 : FVec Ideal S_ .f32) (a7 : FVec Ideal S_ .f32) (a8 :
    FVec Ideal S3 .f32) (a9 : FVec Ideal S3 .f32) (a10 : IVec S_ 32) : FVec Ideal S2048 .f32 :=
  Host.absf (mulf (broadcastInDim S2048 ![] bcast_S_S2048 a5) (Host.reduceAdd (mulf (broadcastInDim S2048x2048
    ![0, 1] bcast_S1x2048_S2048x2048_0_1 (broadcastInDim S1x2048 ![1] bcast_S2048_S1x2048_1 a4)) (refDot a1 a2
    a3 a6 a7 a8 a9 a10)) (constant S_ .f32 0x00000000#32) reducesTo_S2048x2048_S2048_d1 h_S_))

/-- The loss: the mean squared error and half of each of the two other means. -/
def refLoss (a0 : FVec Ideal S2048x3 .f32) (a1 : FVec Ideal S2048x3 .f32) (a2 : FVec Ideal S2048x3 .f32) (a3 :
    FVec Ideal S2048x3 .f32) (a4 : FVec Ideal S2048 .f32) (a5 : FVec Ideal S_ .f32) (a6 : FVec Ideal S_ .f32)
    (a7 : FVec Ideal S_ .f32) (a8 : FVec Ideal S3 .f32) (a9 : FVec Ideal S3 .f32) (a10 : IVec S_ 32) : FVec
    Ideal S_ .f32 :=
  addf (addf (mulf (constant S_ .f32 0x3F800000#32) (Host.divf (refSq a0 a1) (constant S_ .f32 0x45000000#32)))
    (mulf (constant S_ .f32 0x3F000000#32) (Host.divf (Host.reduceAdd (refCmp a1 a2 a4 a5 a6 a8 a9 a10)
    (constant S_ .f32 0x00000000#32) reducesTo_S2048_S_d0 h_S_) (constant S_ .f32 0x45000000#32)))) (mulf
    (constant S_ .f32 0x3F000000#32) (Host.divf (Host.reduceAdd (refDiv a1 a2 a3 a4 a5 a6 a7 a8 a9 a10)
    (constant S_ .f32 0x00000000#32) reducesTo_S2048_S_d0 h_S_) (constant S_ .f32 0x45000000#32)))

/-- The generated term of the reference's run is the loss of the arguments. -/
theorem res_eq (m : (ℓ : Loc nD τ sig) → Buf (Elt Ideal) ℓ) (c : Dev nD) :
    res_main_v131 m c = refLoss (m ((c.tc : Thread nD τ).loc main_arg0)) (m ((c.tc : Thread nD τ).loc main_arg1)) (m ((c.tc : Thread nD τ).loc main_arg2))
       (m ((c.tc : Thread nD τ).loc main_arg3)) (m ((c.tc : Thread nD τ).loc main_arg4)) (m ((c.tc : Thread nD τ).loc main_arg5))
       (m ((c.tc : Thread nD τ).loc main_arg6)) (m ((c.tc : Thread nD τ).loc main_arg7)) (m ((c.tc : Thread nD τ).loc main_arg8))
       (m ((c.tc : Thread nD τ).loc main_arg9)) (m ((c.tc : Thread nD τ).loc main_arg10)) := by
  unfold res_main_v131
  rfl

end Cert.ReferenceIdeal.Alg
-- ==== Proof.State.lean ====
module

public import proofs.«01_k».proof.Proof.Operands
public import proofs.«01_k».proof.Proof.Finite
public import proofs.«01_k».proof.Proof.RefTerms
public import Idealize.ShloMosaic.Lib.Pointwise

/-! The scalars and arrays the kernel carries, entry by entry: they are the reference's positions and velocities. -/

@[expose] public section

set_option maxRecDepth 16384

noncomputable section

namespace Cert.KernelIdeal.Alg

open Idealize.ShloMosaic Idealize.SL.Sem Cert.KernelIdeal Cert.KernelIdeal.Gen Cert.Sph Cert.ReferenceIdeal.Alg

section terms

variable (s : Vec Ideal S1x4 .f32) (Y X V : Vec Ideal S2048x3 .f32) (sd mu : Vec Ideal S1x3 .f32)

/-- The carried density is entry 0 of the scalar row. -/
theorem scRho_eq : scRho s = s (ix2 0 0) := by
  pointwise [scRho]
/-- The reciprocal smoothing length is one over entry 1. -/
theorem scHinv_eq : scHinv s = Ideal.div 1 (s (ix2 0 1)) := by
  pointwise [scHinv, k0_pay13]

/-- The transposed positions are the stored ones. -/
theorem stPosT_apply (j : Fin 2048) (k : Fin 3) : stPosT s Y X sd mu (ix2 k j) = stPos s Y X sd mu (ix2 j k) := by
  pointwise [stPosT, stPos, k0_pay7, k0_pay9]
/-- The transposed velocities are the stored ones. -/
theorem stVelT_apply (j : Fin 2048) (k : Fin 3) : stVelT s Y V sd mu (ix2 k j) = stVel s Y V sd mu (ix2 j k) := by
  pointwise [stVelT, stVel, k0_pay8, k0_pay10]

/-- The guarded squared lengths, from the stored positions. -/
theorem stR_apply (z : Fin 1) (j : Fin 2048) : stR s Y X sd mu (ix2 z j)
    = stPos s Y X sd mu (ix2 j 0) * stPos s Y X sd mu (ix2 j 0) + stPos s Y X sd mu (ix2 j 1) * stPos s Y X sd mu (ix2 j 1)
      + stPos s Y X sd mu (ix2 j 2) * stPos s Y X sd mu (ix2 j 2) + ((eps : ℝ) : EReal) := by
  simp only [← stPosT_apply]
  pointwise [stR, stPosT, k0_pay11, k0_pay12, k0_pay15]
  rw [eps_lit]

/-- Position times velocity, from the stored arrays. -/
theorem stS_apply (z : Fin 1) (j : Fin 2048) : stS s Y X V sd mu (ix2 z j)
    = stPos s Y X sd mu (ix2 j 0) * stVel s Y V sd mu (ix2 j 0) + stPos s Y X sd mu (ix2 j 1) * stVel s Y V sd mu (ix2 j 1)
      + stPos s Y X sd mu (ix2 j 2) * stVel s Y V sd mu (ix2 j 2) := by
  simp only [← stPosT_apply, ← stVelT_apply]
  pointwise [stS, k0_pay16]

section entries

variable {s Y X V sd mu} {a7 : FVec Ideal S_ .f32} {a8 a9 : FVec Ideal S3 .f32} {a10 : IVec S_ 32}
  (hs2 : s (ix2 0 2) = a7 ix0) (hs3 : s (ix2 0 3) = FloatOps.sitofp (F := Ideal) .f32 (a10 ix0))
  (hsd : ∀ k, sd (ix2 0 k) = a9 (ix1 k)) (hmu : ∀ k, mu (ix2 0 k) = a8 (ix1 k))

include hs3 hsd hmu in
/-- The stored positions are the reference's. -/
theorem stPos_eq (j : Fin 2048) (k : Fin 3) :
    stPos s Y X sd mu (ix2 j k) = refPos Y X a8 a9 a10 (ix2 j k) := by
  pointwise [stPos, scNbp, k0_pay2, k0_pay3, k0_pay4, k0_pay5, k0_pay7, refPos, refInv, refFree]
  rw [hs3, fptosi_sitofp, hsd, hmu, select_eq_mul]

include hs2 hs3 hsd hmu in
/-- The stored velocities are the reference's. -/
theorem stVel_eq (h7 : a7 ix0 ≠ 0) (j : Fin 2048) (k : Fin 3) :
    stVel s Y V sd mu (ix2 j k) = refVel Y V a7 a8 a9 a10 (ix2 j k) := by
  pointwise [stVel, scNbp, scDtinv, k0_pay2, k0_pay3, k0_pay4, k0_pay6, k0_pay8, k0_pay14, refVel, refInv, refFree]
  rw [hs2, hs3, fptosi_sitofp, hsd, hmu, select_eq_mul, Ideal.div, Ideal.div, if_neg h7, if_neg h7, one_mul]

end entries

/-- The particle that row `r` of grid point `t` is. -/
def part (t : Fin cfg0.N) (r : Fin 1024) : Fin 2048 :=
  ⟨1024 * t.val + r.val, by have h := t.isLt; have e : cfg0.N = 2 := by decide
                            omega⟩

/-- Where the rows of grid point `t` begin. -/
theorem off_eq : ∀ t : Fin cfg0.N, k0_off1 (grid0.coords t) 0 = 1024 * t.val ∧ k0_off1 (grid0.coords t) 1 = 0 := by
  decide +kernel

/-- The rows of grid point `t` of an array. -/
theorem rows_apply (t : Fin cfg0.N) (A : Vec Ideal S2048x3 .f32) (r : Fin 1024) (k : Fin 3) :
    rows (grid0.coords t) A (ix2 r k) = A (ix2 (part t r) k) := by
  obtain ⟨h0, h1⟩ := off_eq t
  pointwise [rows]
  congr 2 <;> apply Fin.ext <;> simp [h0, h1, part]

end terms

variable (m : (ℓ : Loc nD τ sig) → Buf (Elt Ideal) ℓ) (c : Dev nD)

/-- The scalar row's entries. -/
theorem v14_apply {a5 a6 a7 : FVec Ideal S_ .f32} {a10 : IVec S_ 32} (h5 : m ((c.tc : Thread nD τ).loc main_arg5) = a5)
    (h6 : m ((c.tc : Thread nD τ).loc main_arg6) = a6) (h7 : m ((c.tc : Thread nD τ).loc main_arg7) = a7)
    (h10 : m ((c.tc : Thread nD τ).loc main_arg10) = a10) :
    V m c main_v14 (ix2 0 0) = a5 ix0 ∧ V m c main_v14 (ix2 0 1) = a6 ix0 ∧ V m c main_v14 (ix2 0 2) = a7 ix0
      ∧ V m c main_v14 (ix2 0 3) = FloatOps.sitofp (F := Ideal) .f32 (a10 ix0) := by
  rw [v14, h5, h6, h7, h10]
  refine ⟨?_, ?_, ?_, ?_⟩ <;> pointwise

/-- The volumes at entry of the launch, times the normalisation. -/
theorem v7_apply {a4 : FVec Ideal S2048 .f32} {a6 : FVec Ideal S_ .f32} (h4 : m ((c.tc : Thread nD τ).loc main_arg4) = a4)
    (h6 : m ((c.tc : Thread nD τ).loc main_arg6) = a6) (j : Fin 2048) :
    V m c main_v7 (ix2 j 0) = a4 (ix1 j) * refSigma a6 ix0 := by
  rw [v7, h4, h6]
  pointwise [refSigma]
  simp only [mul_assoc]

/-- The deviations' entries. -/
theorem v15_apply {a9 : FVec Ideal S3 .f32} (h9 : m ((c.tc : Thread nD τ).loc main_arg9) = a9) (k : Fin 3) :
    V m c main_v15 (ix2 0 k) = a9 (ix1 k) := by
  rw [v15, h9]
  pointwise
/-- The means' entries. -/
theorem v16_apply {a8 : FVec Ideal S3 .f32} (h8 : m ((c.tc : Thread nD τ).loc main_arg8) = a8) (k : Fin 3) :
    V m c main_v16 (ix2 0 k) = a8 (ix1 k) := by
  rw [v16, h8]
  pointwise

end Cert.KernelIdeal.Alg
-- ==== Proof.BlockValue.lean ====
module

public import proofs.«01_k».proof.Proof.Block
public import proofs.«01_k».proof.Proof.Model
public import Idealize.ShloMosaic.Lib.Pointwise

/-! What one block of rows computes, entry by entry, once positions and velocities are real numbers: the product of
    stacked halves is the inner product, the guarded squared distance is the sum of squares, and so on. -/

@[expose] public section

set_option maxRecDepth 16384

noncomputable section

namespace Cert.KernelIdeal.Alg

open Idealize.ShloMosaic Idealize.SL.Sem Cert.KernelIdeal Cert.KernelIdeal.Gen Cert.Sph

variable {p v : Fin 2048 → Fin 3 → ℝ} {ρ : Fin 1024 → Fin 2048}
  {T U : FVec Ideal S3x2048 .f32} {R Q : Vec Ideal S1024x3 .f32}
  (hT : ∀ k j, T (ix2 k j) = ((p j k : ℝ) : EReal)) (hU : ∀ k j, U (ix2 k j) = ((v j k : ℝ) : EReal))
  (hR : ∀ r k, R (ix2 r k) = ((p (ρ r) k : ℝ) : EReal)) (hQ : ∀ r k, Q (ix2 r k) = ((v (ρ r) k : ℝ) : EReal))

include hT hR in
/-- The stacked product of positions is the inner product of the two particles' positions. -/
theorem pay26_apply (r : Fin 1024) (j : Fin 2048) :
    k0_pay26 R (k0_pay19 T) (ix2 r j) = ((∑ k, p (ρ r) k * p j k : ℝ) : EReal) := by
  pointwise [k0_pay26, k0_pay19, k0_pay24, k0_pay25, k0_pay17, k0_pay18]
  simp only [hT, hR]
  simp [Fin.sum_univ_succ]

set_option maxHeartbeats 1000000 in
include hT hR hU hQ in
/-- The stacked mixed product is position times velocity plus velocity times position. -/
theorem pay27_apply (r : Fin 1024) (j : Fin 2048) :
    k0_pay27 R Q (k0_pay20 T U) (ix2 r j)
      = ((∑ k, p (ρ r) k * v j k + ∑ k, v (ρ r) k * p j k : ℝ) : EReal) := by
  pointwise [k0_pay27, k0_pay20, k0_pay24, k0_pay25, k0_pay17, k0_pay18]
  simp only [hT, hR, hU, hQ]
  simp [Fin.sum_univ_succ]
  norm_cast
  ring

include hR in
/-- The row's squared length. -/
theorem pay22_apply (r : Fin 1024) (z : Fin 1) :
    k0_pay22 R (ix2 r z) = ((∑ k, p (ρ r) k * p (ρ r) k : ℝ) : EReal) := by
  pointwise [k0_pay22]
  simp only [hR]
  simp [Fin.sum_univ_succ]

include hR hQ in
/-- The row's position times its velocity. -/
theorem pay23_apply (r : Fin 1024) (z : Fin 1) :
    k0_pay23 R Q (ix2 r z) = ((∑ k, p (ρ r) k * v (ρ r) k : ℝ) : EReal) := by
  pointwise [k0_pay23]
  simp only [hR, hQ]
  simp [Fin.sum_univ_succ]

variable {A : FVec Ideal S1024x1 .f32} {B : FVec Ideal S1024x2048 .f32} {C : Vec Ideal S1x2048 .f32}
  (hA : ∀ r z, A (ix2 r z) = ((∑ k, p (ρ r) k * p (ρ r) k : ℝ) : EReal))
  (hB : ∀ r j, B (ix2 r j) = ((∑ k, p (ρ r) k * p j k : ℝ) : EReal))
  (hC : ∀ z j, C (ix2 z j) = ((∑ k, p j k * p j k + eps : ℝ) : EReal))

include hA hB hC in
/-- The guarded squared distance. -/
theorem pay28_apply (r : Fin 1024) (j : Fin 2048) : k0_pay28 A B C (ix2 r j) = ((D p (ρ r) j : ℝ) : EReal) := by
  pointwise [k0_pay28]
  simp only [hA, hB, hC, eps_lit]
  norm_cast
  have e : (∑ k, p (ρ r) k * p (ρ r) k - (∑ k, p (ρ r) k * p j k + ∑ k, p (ρ r) k * p j k)
      + (∑ k, p j k * p j k + eps)) = D p (ρ r) j := by
    simp only [D, Fin.sum_univ_three]; ring
  rw [e, max_eq_left]
  refine EReal.coe_le_coe_iff.mpr ?_
  have : 0 ≤ ∑ k, (p (ρ r) k - p j k) ^ 2 := Finset.sum_nonneg fun k _ => sq_nonneg _
  unfold D; linarith

include hA hB hC in
/-- One over the distance. -/
theorem pay29_apply (r : Fin 1024) (j : Fin 2048) :
    k0_pay29 A B C (ix2 r j) = (((sep p (ρ r) j)⁻¹ : ℝ) : EReal) := by
  have h0 := pay28_apply hA hB hC r j
  pointwise [k0_pay29]
  rw [h0, rsqrt_coe (D_pos p (ρ r) j), sep]

include hA hB hC in
/-- The distance over the smoothing length. -/
theorem pay30_apply {e : EReal} {η : ℝ} (he : e = (η : EReal)) (r : Fin 1024) (j : Fin 2048) :
    k0_pay30 (F := Ideal) e A B C (ix2 r j) = ((sep p (ρ r) j * η : ℝ) : EReal) := by
  have h0 := pay28_apply hA hB hC r j
  have h1 := pay29_apply hA hB hC r j
  pointwise [k0_pay30]
  rw [h0, h1, he]
  norm_cast
  have h := D_pos p (ρ r) j
  have e : D p (ρ r) j * (sep p (ρ r) j)⁻¹ = sep p (ρ r) j := by
    rw [mul_inv_eq_iff_eq_mul₀ (sep_pos p _ _).ne']; unfold sep; rw [Real.mul_self_sqrt h.le]
  rw [e]

include hA hB hC in
/-- The spline's value. -/
theorem pay35_apply {e : EReal} {η : ℝ} (he : e = (η : EReal)) (r : Fin 1024) (j : Fin 2048) :
    k0_pay35 (F := Ideal) e A B C (ix2 r j) = ((wf (sep p (ρ r) j * η) : ℝ) : EReal) := by
  have h0 := pay30_apply hA hB hC he r j
  pointwise [k0_pay35, k0_pay31, k0_pay32, k0_pay33, k0_pay34]
  rw [h0]
  generalize sep p (ρ r) j * η = q
  rw [half_bf16, six_bf16, two_bf16]
  unfold wf
  simp only [EReal.coe_le_coe_iff]
  split_ifs
  · norm_cast; ring_nf
  · rw [← EReal.coe_one, ← EReal.coe_sub, coe_max_zero, ← EReal.coe_mul, ← EReal.coe_mul]
    try rw [← EReal.coe_mul]
    ring_nf

include hA hB hC in
/-- The spline's derivative. -/
theorem pay36_apply {e : EReal} {η : ℝ} (he : e = (η : EReal)) (r : Fin 1024) (j : Fin 2048) :
    k0_pay36 (F := Ideal) e A B C (ix2 r j) = ((gf (sep p (ρ r) j * η) : ℝ) : EReal) := by
  have h0 := pay30_apply hA hB hC he r j
  pointwise [k0_pay36, k0_pay31, k0_pay32, k0_pay33, k0_pay34]
  rw [h0]
  generalize sep p (ρ r) j * η = q
  rw [half_bf16, eighteen_bf16, twelve_bf16, negSix_bf16]
  unfold gf
  simp only [EReal.coe_le_coe_iff]
  split_ifs
  · norm_cast; ring_nf
  · rw [← EReal.coe_one, ← EReal.coe_sub, coe_max_zero, ← EReal.coe_mul, ← EReal.coe_mul]
    try rw [← EReal.coe_mul]
    ring_nf

/-- The velocity difference times the position difference. -/
theorem pay37_apply {A : FVec Ideal S1024x1 .f32} {B : FVec Ideal S1024x2048 .f32} {C : Vec Ideal S1x2048 .f32}
    (hA : ∀ r z, A (ix2 r z) = ((∑ k, p (ρ r) k * v (ρ r) k : ℝ) : EReal))
    (hB : ∀ r j, B (ix2 r j) = ((∑ k, p (ρ r) k * v j k + ∑ k, v (ρ r) k * p j k : ℝ) : EReal))
    (hC : ∀ z j, C (ix2 z j) = ((∑ k, p j k * v j k : ℝ) : EReal)) (r : Fin 1024) (j : Fin 2048) :
    k0_pay37 A B C (ix2 r j) = ((dot p v (ρ r) j : ℝ) : EReal) := by
  pointwise [k0_pay37]
  rw [hA, hB, hC]
  norm_cast
  simp only [dot, Fin.sum_univ_three]; ring

/-- What a block of rows adds to the loss, from the entries of its pairwise arrays. -/
theorem pay38_eq (rho e : EReal) (v43 : FVec Ideal S1024x2048 .f32) (v66 v74 : FVec Ideal S1024x2048 .bf16)
    (v79 : FVec Ideal S1024x2048 .f32) (v84 : Vec Ideal S2048x1 .bf16) (v108 v110 : Vec Ideal S1024x3 .f32) :
    k0_pay38 (F := Ideal) rho e v43 v66 v74 v79 v84 v108 v110 =
      Ideal.div ((∑ r : Fin 1024, ∑ k : Fin 3, (v108 (ix2 r k) - v110 (ix2 r k)) * (v108 (ix2 r k) - v110 (ix2 r k)))
        + ((1 / 2 : ℝ) : EReal) * (∑ r : Fin 1024, eabs (Ideal.div (rho * ∑ j : Fin 2048, v66 (ix2 r j) * v84 (ix2 j 0)) rho - 1))
        + ((1 / 2 : ℝ) : EReal) * (∑ r : Fin 1024, eabs (rho * e * ∑ j : Fin 2048,
            v74 (ix2 r j) * v79 (ix2 r j) * v43 (ix2 r j) * v84 (ix2 j 0)))) ((2048 : ℝ) : EReal) := by
  unfold k0_pay38
  pointwise
  simp only [half_f32, n_f32, Ideal.absf_def, Fin.sum_univ_one, eabs]

end Cert.KernelIdeal.Alg
-- ==== Proof.Contribution.lean ====
module

public import proofs.«01_k».proof.Proof.State
public import proofs.«01_k».proof.Proof.BlockValue

/-! What one block of rows adds to the loss, once the stored positions and velocities are real numbers. -/

@[expose] public section

set_option maxRecDepth 16384

noncomputable section

namespace Cert.KernelIdeal.Alg

open Idealize.ShloMosaic Idealize.SL.Sem Cert.KernelIdeal Cert.KernelIdeal.Gen Cert.Sph

variable {s : Vec Ideal S1x4 .f32} {P Y X V : Vec Ideal S2048x3 .f32} {L : Vec Ideal S2048x1 .bf16}
  {sd mu : Vec Ideal S1x3 .f32} {p v : Fin 2048 → Fin 3 → ℝ} {η : ℝ}
  (hP : ∀ j k, stPos s Y X sd mu (ix2 j k) = ((p j k : ℝ) : EReal))
  (hV : ∀ j k, stVel s Y V sd mu (ix2 j k) = ((v j k : ℝ) : EReal))
  (he : scHinv s = ((η : ℝ) : EReal))

include hP hV he in
/-- The block of grid point `t` adds the squared errors, half the compressions and half the divergences of its
particles, over the number of particles. -/
theorem contribOf_eq (t : Fin cfg0.N) :
    contribOf s P Y L (grid0.coords t) (stA s Y X sd mu) (stPQ s Y X V sd mu) (stR s Y X sd mu) (stS s Y X V sd mu)
      (stPos s Y X sd mu) (stVel s Y V sd mu) =
    Ideal.div ((∑ r : Fin 1024, ∑ k : Fin 3, (Y (ix2 (part t r) k) - P (ix2 (part t r) k)) * (Y (ix2 (part t r) k) - P (ix2 (part t r) k)))
      + ((1 / 2 : ℝ) : EReal) * (∑ r : Fin 1024, eabs (Ideal.div (scRho s * ∑ j : Fin 2048,
          ((wf (sep p (part t r) j * η) : ℝ) : EReal) * L (ix2 j 0)) (scRho s) - 1))
      + ((1 / 2 : ℝ) : EReal) * (∑ r : Fin 1024, eabs (scRho s * ((η : ℝ) : EReal) * ∑ j : Fin 2048,
          ((gf (sep p (part t r) j * η) : ℝ) : EReal) * ((dot p v (part t r) j : ℝ) : EReal)
            * (((sep p (part t r) j)⁻¹ : ℝ) : EReal) * L (ix2 j 0)))) ((2048 : ℝ) : EReal) := by
  have hT : ∀ k j, stPosT s Y X sd mu (ix2 k j) = ((p j k : ℝ) : EReal) := fun k j => by rw [stPosT_apply, hP]
  have hU : ∀ k j, stVelT s Y V sd mu (ix2 k j) = ((v j k : ℝ) : EReal) := fun k j => by rw [stVelT_apply, hV]
  have hR : ∀ r k, rows (grid0.coords t) (stPos s Y X sd mu) (ix2 r k) = ((p (part t r) k : ℝ) : EReal) :=
    fun r k => by rw [rows_apply, hP]
  have hQ : ∀ r k, rows (grid0.coords t) (stVel s Y V sd mu) (ix2 r k) = ((v (part t r) k : ℝ) : EReal) :=
    fun r k => by rw [rows_apply, hV]
  have hC : ∀ z j, stR s Y X sd mu (ix2 z j) = ((∑ k, p j k * p j k + eps : ℝ) : EReal) := fun z j => by
    rw [stR_apply, hP, hP, hP, Fin.sum_univ_three]
    norm_cast
  have hS : ∀ z j, stS s Y X V sd mu (ix2 z j) = ((∑ k, p j k * v j k : ℝ) : EReal) := fun z j => by
    rw [stS_apply, hP, hP, hP, hV, hV, hV, Fin.sum_univ_three]
    norm_cast
  have hA := pay22_apply hR
  have hB := pay26_apply hT hR
  have hA' := pay23_apply hR hQ
  have hB' := pay27_apply hT hU hR hQ
  unfold contribOf stA stPQ
  rw [pay38_eq]
  rw [he]
  simp only [rows_apply, pay29_apply hA hB hC, pay35_apply hA hB hC (η := η) rfl,
    pay36_apply hA hB hC (η := η) rfl, pay37_apply hA' hB' hS]

end Cert.KernelIdeal.Alg
-- ==== Proof.Sums.lean ====
module

public import proofs.«01_k».proof.Proof.Model

/-! The algebra of the loss on extended reals: the two blocks' means are the means over all particles. -/

@[expose] public section

noncomputable section

namespace Cert.Sph

open Idealize.ShloMosaic

/-- A square is nonnegative, at the infinities too. -/
theorem sq_nonneg' (x : EReal) : 0 ≤ x * x := by
  rcases le_total 0 x with h | h
  · exact mul_nonneg h h
  · have e : x * x = -x * -x := by rw [EReal.neg_mul, mul_comm x (-x), EReal.neg_mul, neg_neg]
    rw [e]
    have h' : 0 ≤ -x := by rw [EReal.le_neg]; simpa using h
    exact mul_nonneg h' h'

/-- Dividing by a nonzero real is multiplying by its inverse. -/
theorem div_coe (x : EReal) {n : ℝ} (hn : n ≠ 0) : Ideal.div x ((n : ℝ) : EReal) = x * ((n⁻¹ : ℝ) : EReal) := by
  rw [Ideal.div, if_neg (by exact_mod_cast hn), EReal.coe_inv]

/-- The two blocks' contributions, each over the number of particles, add to the three means. -/
theorem blocks_add {A0 A1 B0 B1 E0 E1 : EReal} (hA0 : 0 ≤ A0) (hA1 : 0 ≤ A1) (hB0 : 0 ≤ B0) (hB1 : 0 ≤ B1)
    (hE0 : 0 ≤ E0) (hE1 : 0 ≤ E1) :
    0 + Ideal.div (A0 + ((1 / 2 : ℝ) : EReal) * B0 + ((1 / 2 : ℝ) : EReal) * E0) ((2048 : ℝ) : EReal)
      + Ideal.div (A1 + ((1 / 2 : ℝ) : EReal) * B1 + ((1 / 2 : ℝ) : EReal) * E1) ((2048 : ℝ) : EReal)
    = Ideal.div (A0 + A1) ((2048 : ℝ) : EReal) + ((1 / 2 : ℝ) : EReal) * Ideal.div (B0 + B1) ((2048 : ℝ) : EReal)
      + ((1 / 2 : ℝ) : EReal) * Ideal.div (E0 + E1) ((2048 : ℝ) : EReal) := by
  have hh : (0 : EReal) ≤ ((1 / 2 : ℝ) : EReal) := by exact_mod_cast (by norm_num : (0 : ℝ) ≤ 1 / 2)
  simp only [div_coe _ (by norm_num : (2048 : ℝ) ≠ 0)]
  have b0 := mul_nonneg hh hB0
  have b1 := mul_nonneg hh hB1
  have e0 := mul_nonneg hh hE0
  have e1 := mul_nonneg hh hE1
  generalize ((2048⁻¹ : ℝ) : EReal) = n
  generalize ((1 / 2 : ℝ) : EReal) = g at *
  rw [EReal.right_distrib_of_nonneg (add_nonneg hA0 b0) e0, EReal.right_distrib_of_nonneg hA0 b0,
    EReal.right_distrib_of_nonneg (add_nonneg hA1 b1) e1, EReal.right_distrib_of_nonneg hA1 b1,
    EReal.right_distrib_of_nonneg hA0 hA1, ← mul_assoc, ← mul_assoc, EReal.left_distrib_of_nonneg hB0 hB1,
    EReal.left_distrib_of_nonneg hE0 hE1, EReal.right_distrib_of_nonneg b0 b1, EReal.right_distrib_of_nonneg e0 e1,
    zero_add]
  ac_rfl

/-- The summed smoothing weights, with the normalisation in the volumes or in the kernel. -/
theorem compression_sum {n : Type*} [Fintype n] (a : n → EReal) (w : n → ℝ) (σ : ℝ) :
    ∑ j, ((w j : ℝ) : EReal) * (a j * ((σ : ℝ) : EReal)) = ∑ j, a j * ((σ * w j : ℝ) : EReal) := by
  refine Finset.sum_congr rfl fun j _ => ?_
  rw [EReal.coe_mul]
  ac_rfl

/-- The absolute divergence, with one over the smoothing length in front of the sum or inside it. -/
theorem divergence_abs {n : Type*} [Fintype n] [DecidableEq n] (rho : EReal) (a : n → EReal) (g d q : n → ℝ) (η σ : ℝ) :
    eabs (rho * ((η : ℝ) : EReal) * ∑ j, ((g j : ℝ) : EReal) * ((d j : ℝ) : EReal) * ((q j : ℝ) : EReal)
        * (a j * ((σ : ℝ) : EReal)))
      = eabs (rho * ∑ j, a j * ((η * (σ * (g j * d j * q j)) : ℝ) : EReal)) := by
  rw [mul_assoc]
  refine eabs_mul_congr rho ?_
  rw [eabs_mul_sum]
  congr 1
  refine Finset.sum_congr rfl fun j _ => ?_
  simp only [EReal.coe_mul]
  ac_rfl

end Cert.Sph
-- ==== Proof.RefValue.lean ====
module

public import proofs.«01_k».proof.Proof.RefTerms
public import proofs.«01_k».proof.Proof.Model
public import Idealize.ShloMosaic.Lib.Pointwise

/-! The reference's arrays entry by entry, once positions and velocities are real numbers. -/

@[expose] public section

set_option maxRecDepth 16384

noncomputable section

namespace Cert.ReferenceIdeal.Alg

open Idealize.ShloMosaic Idealize.SL.Sem Cert.ReferenceIdeal Cert.ReferenceIdeal.Gen Cert.Sph

variable {a0 a1 a2 a3 : FVec Ideal S2048x3 .f32} {a4 : FVec Ideal S2048 .f32} {a5 a6 a7 : FVec Ideal S_ .f32}
  {a8 a9 : FVec Ideal S3 .f32} {a10 : IVec S_ 32} {p v : Fin 2048 → Fin 3 → ℝ} {η σ : ℝ}

/-- The scalar constant with all bits zero is zero. -/
theorem zero_const : id (constant (F := Ideal) S_ .f32 0#32) ix0 = 0 := by
  change Ideal.ofBits .f32 0#32 = 0
  simp [Ideal.ofBits_zero]

section pairs
variable (hp : ∀ j k, refPos a1 a2 a8 a9 a10 (ix2 j k) = ((p j k : ℝ) : EReal))
  (hv : ∀ j k, refVel a1 a3 a7 a8 a9 a10 (ix2 j k) = ((v j k : ℝ) : EReal))
  (h0 : a6 ix0 ≠ 0) (hη : (a6 ix0)⁻¹ = ((η : ℝ) : EReal)) (hσ : refSigma a6 ix0 = ((σ : ℝ) : EReal))

include hp in
/-- The difference of two positions. -/
theorem refDiff_apply (i j : Fin 2048) (k : Fin 3) :
    refDiff a1 a2 a8 a9 a10 (ix3 i j k) = ((p i k - p j k : ℝ) : EReal) := by
  pointwise [refDiff]
  rw [hp, hp]
  norm_cast

include hp in
/-- The distance array holds the guarded distance. -/
theorem refD_apply (i j : Fin 2048) : refD a1 a2 a8 a9 a10 (ix2 i j) = ((sep p i j : ℝ) : EReal) := by
  pointwise [refD]
  simp only [refDiff_apply hp, eps_lit, Fin.sum_univ_three]
  norm_cast
  have e : ((p i 0 - p j 0) * (p i 0 - p j 0) + (p i 1 - p j 1) * (p i 1 - p j 1)
      + (p i 2 - p j 2) * (p i 2 - p j 2) + eps) = D p i j := by
    simp only [D, Fin.sum_univ_three]; ring
  rw [e]
  exact sqrt_coe (D_pos p i j)

include hp h0 hη in
/-- The distance over the smoothing length. -/
theorem refQ_apply (i j : Fin 2048) : refQ a1 a2 a6 a8 a9 a10 (ix2 i j) = ((sep p i j * η : ℝ) : EReal) := by
  pointwise [refQ]
  rw [refD_apply hp, Ideal.div, if_neg h0, hη]
  norm_cast

include hp h0 hη in
/-- One minus that, not below zero. -/
theorem refFar_apply (i j : Fin 2048) :
    refFar a1 a2 a6 a8 a9 a10 (ix2 i j) = ((max (1 - sep p i j * η) 0 : ℝ) : EReal) := by
  pointwise [refFar]
  rw [refQ_apply hp h0 hη, zero_const, max_comm, ← coe_max_zero]
  norm_cast

include hp h0 hη in
/-- The spline array holds the spline `wf`. -/
theorem refW_apply (i j : Fin 2048) : refW a1 a2 a6 a8 a9 a10 (ix2 i j) = ((wf (sep p i j * η) : ℝ) : EReal) := by
  pointwise [refW]
  rw [refQ_apply hp h0 hη, refFar_apply hp h0 hη, half_f32, six_f32, two_f32]
  generalize sep p i j * η = q
  rw [← EReal.coe_one]
  simp only [EReal.coe_le_coe_iff]
  unfold wf
  split_ifs with h1 h2
  · norm_cast; ring_nf
  · norm_cast; ring_nf
  · linarith
  · rw [max_eq_right (by linarith)]; simp; exact zero_const

include hp h0 hη in
/-- The derivative array holds the spline's derivative `gf`. -/
theorem refG_apply (i j : Fin 2048) : refG a1 a2 a6 a8 a9 a10 (ix2 i j) = ((gf (sep p i j * η) : ℝ) : EReal) := by
  pointwise [refG]
  rw [refQ_apply hp h0 hη, refFar_apply hp h0 hη, half_f32, six_f32, two_f32, three_f32, negSix_f32]
  generalize sep p i j * η = q
  rw [← EReal.coe_one]
  simp only [EReal.coe_le_coe_iff]
  unfold gf
  split_ifs with h1 h2
  · norm_cast; ring_nf
  · norm_cast; ring_nf
  · linarith
  · rw [max_eq_right (by linarith)]; simp; exact zero_const

include hp hv h0 hη hσ in
/-- Velocity difference times gradient: the derivative times `dot` over the distance, with its factors. -/
theorem refDot_apply (i j : Fin 2048) : refDot a1 a2 a3 a6 a7 a8 a9 a10 (ix2 i j)
    = ((η * (σ * (gf (sep p i j * η) * dot p v i j * (sep p i j)⁻¹)) : ℝ) : EReal) := by
  pointwise [refDot]
  simp only [refG_apply hp h0 hη, refD_apply hp, refDiff_apply hp, hv, hσ, Ideal.div, if_neg h0, hη]
  have hs : ((sep p i j : ℝ) : EReal) ≠ 0 := by exact_mod_cast (sep_pos p i j).ne'
  simp only [if_neg hs, Fin.sum_univ_three, ← EReal.coe_inv]
  norm_cast
  simp only [dot, Fin.sum_univ_three]; ring

end pairs

/-- The sum of squared errors, as a sum over particles and coordinates. -/
theorem refSq_apply : refSq a0 a1 ix0 = ∑ i : Fin 2048, ∑ k : Fin 3,
    (a1 (ix2 i k) - a0 (ix2 i k)) * (a1 (ix2 i k) - a0 (ix2 i k)) := by
  pointwise [refSq]

section loss
variable (hp : ∀ j k, refPos a1 a2 a8 a9 a10 (ix2 j k) = ((p j k : ℝ) : EReal))
  (hv : ∀ j k, refVel a1 a3 a7 a8 a9 a10 (ix2 j k) = ((v j k : ℝ) : EReal))
  (h0 : a6 ix0 ≠ 0) (hη : (a6 ix0)⁻¹ = ((η : ℝ) : EReal)) (hσ : refSigma a6 ix0 = ((σ : ℝ) : EReal))

include hp h0 hη hσ in
/-- A particle's absolute relative compression. -/
theorem refCmp_apply (i : Fin 2048) : refCmp a1 a2 a4 a5 a6 a8 a9 a10 (ix1 i)
    = eabs (Ideal.div (a5 ix0 * ∑ j : Fin 2048, a4 (ix1 j) * ((σ * wf (sep p i j * η) : ℝ) : EReal)) (a5 ix0) - 1) := by
  pointwise [refCmp]
  simp only [refW_apply hp h0 hη, hσ, Ideal.absf_def, eabs, EReal.coe_mul]

include hp hv h0 hη hσ in
/-- A particle's absolute divergence. -/
theorem refDiv_apply (i : Fin 2048) : refDiv a1 a2 a3 a4 a5 a6 a7 a8 a9 a10 (ix1 i)
    = eabs (a5 ix0 * ∑ j : Fin 2048, a4 (ix1 j)
        * ((η * (σ * (gf (sep p i j * η) * dot p v i j * (sep p i j)⁻¹)) : ℝ) : EReal)) := by
  pointwise [refDiv]
  simp only [refDot_apply hp hv h0 hη hσ, Ideal.absf_def, eabs]

include hp hv h0 hη hσ in
/-- The loss as three means over the particles. -/
theorem refLoss_apply : refLoss a0 a1 a2 a3 a4 a5 a6 a7 a8 a9 a10 ix0
    = Ideal.div (∑ i : Fin 2048, ∑ k : Fin 3, (a1 (ix2 i k) - a0 (ix2 i k)) * (a1 (ix2 i k) - a0 (ix2 i k))) ((2048 : ℝ) : EReal)
      + ((1 / 2 : ℝ) : EReal) * Ideal.div (∑ i : Fin 2048,
          eabs (Ideal.div (a5 ix0 * ∑ j : Fin 2048, a4 (ix1 j) * ((σ * wf (sep p i j * η) : ℝ) : EReal)) (a5 ix0) - 1))
          ((2048 : ℝ) : EReal)
      + ((1 / 2 : ℝ) : EReal) * Ideal.div (∑ i : Fin 2048, eabs (a5 ix0 * ∑ j : Fin 2048, a4 (ix1 j)
        * ((η * (σ * (gf (sep p i j * η) * dot p v i j * (sep p i j)⁻¹)) : ℝ) : EReal))) ((2048 : ℝ) : EReal) := by
  pointwise [refLoss]
  simp only [refSq_apply, refCmp_apply hp h0 hη hσ, refDiv_apply hp hv h0 hη hσ, half_f32, n_f32, one_mul]

end loss

end Cert.ReferenceIdeal.Alg
-- ==== Proof.Precondition.lean ====
module

public import proofs.«01_k».proof.Pre_finite_particles
public import proofs.«01_k».proof.Proof.Finite
public import Idealize.ShloMosaic.Lib.ReduceAll
public import Idealize.ShloMosaic.Lib.Pointwise

/-! What the precondition says of the arguments. -/

@[expose] public section

noncomputable section

namespace Cert.Pre_finite_particles

open Idealize.ShloMosaic Cert.Sph

/-- The side conditions the precondition states. -/
theorem facts : Facts where
  bcast_S_S2048x3 := by decide
  reducesTo_S2048x3_S_d0_1 := by decide
  h_S_ := by decide
  bcast_S_S3 := by decide
  reducesTo_S3_S_d0 := by decide

/-- The word of the infinity constant denotes the infinity. -/
theorem inf_lit : Ideal.ofBits .f32 0x7F800000#32 = ⊤ := by
  simp [Ideal.ofBits, Ideal.ieee]

/-- A strict comparison that came out true holds. -/
theorem lt_of_ofBool {x y : EReal} (h : BitVec.ofBool (decide (x < y)) = 1#1) : x < y := by
  by_contra hn
  simp [hn] at h

variable [Facts]
open Facts

/-- An array all of whose absolute values are below infinity is real everywhere. -/
theorem real2 (x : FVec Ideal S2048x3 .f32)
    (h : Host.reduce IntOp.andi (cmpf .olt (Host.absf x) (broadcastInDim S2048x3 ![] bcast_S_S2048x3
      (constant (F := Ideal) S_ .f32 0x7F800000#32))) (constantI S_ 1 1#1) reducesTo_S2048x3_S_d0_1 h_S_ ix0 = 1#1)
    (j : Fin 2048) (k : Fin 3) : IsReal (x (ix2 j k)) := by
  have h1 := Host.reduce_andi_all _ _ _ _ _ h (ix2 j k)
  revert h1
  pointwise
  intro h1
  rw [inf_lit] at h1
  exact isReal_of_lt (lt_of_ofBool h1)

/-- The same for an array of three. -/
theorem real1 (x : FVec Ideal S3 .f32)
    (h : Host.reduce IntOp.andi (cmpf .olt (Host.absf x) (broadcastInDim S3 ![] bcast_S_S3
      (constant (F := Ideal) S_ .f32 0x7F800000#32))) (constantI S_ 1 1#1) reducesTo_S3_S_d0 h_S_ ix0 = 1#1)
    (k : Fin 3) : IsReal (x (ix1 k)) := by
  have h1 := Host.reduce_andi_all _ _ _ _ _ h (ix1 k)
  revert h1
  pointwise
  intro h1
  rw [inf_lit] at h1
  exact isReal_of_lt (lt_of_ofBool h1)

/-- A scalar compared unequal to zero is not zero. -/
theorem ne_zero (x : FVec Ideal S_ .f32) (h : cmpf .une x (constant (F := Ideal) S_ .f32 0x00000000#32) ix0 = 1#1) :
    x ix0 ≠ 0 := by
  revert h
  pointwise
  intro h e
  rw [e] at h
  simp at h

/-- The precondition: the four arrays it reads are real, the time step is not zero. -/
theorem finite {a0 a1 a2 a3 : FVec Ideal S2048x3 .f32} {a4 : FVec Ideal S2048 .f32} {a5 a6 a7 : FVec Ideal S_ .f32}
    {a8 a9 : FVec Ideal S3 .f32} {a10 : IVec S_ 32}
    (h : fn (F := Ideal) a0 a1 a2 a3 a4 a5 a6 a7 a8 a9 a10 ix0 = 1#1) :
    (∀ j k, IsReal (a2 (ix2 j k))) ∧ (∀ j k, IsReal (a3 (ix2 j k)))
      ∧ (∀ k, IsReal (a8 (ix1 k))) ∧ (∀ k, IsReal (a9 (ix1 k))) ∧ a7 ix0 ≠ 0 := by
  unfold fn fn_part1 at h
  simp only [andi_apply] at h
  simp only [IntOp.andi_eq_one] at h
  obtain ⟨⟨⟨⟨h2, h3⟩, h4⟩, h5⟩, h7⟩ := h
  exact ⟨real2 a2 h2, real2 a3 h3, real1 a8 h4, real1 a9 h5, ne_zero a7 h7⟩

end Cert.Pre_finite_particles
-- ==== Proof.Array.lean ====
module

public import proofs.«01_k».proof.Proof.Block
public import Idealize.ShloMosaic.Lib.Claim

/-! What the kernel's result holds when the run has ended: the second grid point's block over the first's. -/

@[expose] public section

set_option maxRecDepth 16384

noncomputable section

namespace Cert.KernelIdeal.Alg

open Idealize.ShloMosaic Idealize.SL.Sem Cert.KernelIdeal Cert.KernelIdeal.Gen

variable (m : (ℓ : Loc nD τ sig) → Buf (Elt Ideal) ℓ)

/-- The last grid point. -/
def tLast : Fin cfg0.N := ⟨1, by decide⟩

/-- The kernel's output array after the run is what the second grid point leaves in its block. -/
theorem arr8 (c : Dev nD) : (dats m 0 c).arrAt 8 (cfgs 0).N = fun j => (outsAt0 m c tLast.val tLast.isLt).1 j := by
  refine (dats m 0 c).arrAt_eq_of_after_last 8 tLast (by decide +kernel) _ fun j => ?_
  blk_simp
  rw [after0_8]

/-- The kernel runs to its end, and its scalar result is then the one entry of the second grid point's block. -/
theorem run (g : Dev nD → PrngReg) :
    θ_run defs (onTc (τ := τ) (main (F := Ideal))) ⟨m, fun _ => 0, g⟩ fun r => ∀ c : Dev nD,
      r.2.mem ((c.tc : Thread nD τ).loc main_v18) = shapeCast S_ (outsAt0 m c tLast.val tLast.isLt).1 shapeCasts_S1x1_S_ := by
  refine (θ_run defs _ _).mono (fun r h c => ?_) (run_main m g)
  have h1 := (h c).2 main_v18 (by decide)
  rw [h1]
  unfold Pipeline.afterTail₀
  simp only [List.flatten_cons, List.flatten_nil, List.append_nil]
  after_results
  erw [Pipeline.withArrays_arr (cfgs 0).spec (by decide +kernel) c (V0 m c) (fun w => (dats m 0 c).arrAt w (cfgs 0).N) 8]
  rw [arr8]
  rfl

end Cert.KernelIdeal.Alg
-- ==== Proof.Equation.lean ====
module

public import proofs.«01_k».proof.Proof.Contribution
public import proofs.«01_k».proof.Proof.Sums
public import proofs.«01_k».proof.Proof.RefValue
public import proofs.«01_k».proof.Proof.Precondition
public import proofs.«01_k».proof.Proof.Array

/-! The equation: what the second grid point leaves in the output block is the reference's loss. -/

@[expose] public section

set_option maxRecDepth 16384

noncomputable section

namespace Cert.KernelIdeal.Alg

open Idealize.ShloMosaic Idealize.SL.Sem Cert.KernelIdeal Cert.KernelIdeal.Gen Cert.Sph Cert.ReferenceIdeal.Alg

/-- The first grid point. -/
def tFirst : Fin cfg0.N := ⟨0, by decide⟩

/-- A sum over all particles is the sum over the first block's and over the second's. -/
theorem sum_parts (f : Fin 2048 → EReal) :
    ∑ i, f i = ∑ r, f (part tFirst r) + ∑ r, f (part tLast r) := by
  refine (Fin.sum_univ_add (a := 1024) (b := 1024) f).trans ?_
  refine congrArg₂ (· + ·) (Finset.sum_congr rfl fun r _ => congrArg f ?_) (Finset.sum_congr rfl fun r _ => congrArg f ?_)
  · apply Fin.ext; simp [part, tFirst]
  · apply Fin.ext; simp [part, tLast, Nat.add_comm]

/-- The accumulator after one more block. -/
theorem pay1_apply (x : EReal) (A : Vec Ideal S1x1 .f32) : k0_pay1 (F := Ideal) x A (ix2 0 0) = A (ix2 0 0) + x := by
  pointwise [k0_pay1]

/-- The accumulator starts at zero. -/
theorem pay21_apply : k0_pay21 (F := Ideal) (ix2 0 0) = 0 := by
  pointwise [k0_pay21]

/-- The scalar result is the output array's one entry. -/
theorem result_apply (A : Vec Ideal S1x1 .f32) : shapeCast S_ A shapeCasts_S1x1_S_ ix0 = A (ix2 0 0) := by
  pointwise

variable (m : (ℓ : Loc nD τ sig) → Buf (Elt Ideal) ℓ) (c : Dev nD)

/-- The output block after the second grid point: the first block's contribution plus the second's. -/
theorem out_eq {s : Vec Ideal S1x4 .f32} {P Y X V : Vec Ideal S2048x3 .f32} {L : Vec Ideal S2048x1 .bf16}
    {sd mu : Vec Ideal S1x3 .f32} (hs : ∀ t, (iblk m c 0 t : Vec Ideal S1x4 .f32) = s)
    (hP : ∀ t, (iblk m c 1 t : Vec Ideal S2048x3 .f32) = P) (hY : ∀ t, (iblk m c 2 t : Vec Ideal S2048x3 .f32) = Y)
    (hX : ∀ t, (iblk m c 3 t : Vec Ideal S2048x3 .f32) = X) (hV : ∀ t, (iblk m c 4 t : Vec Ideal S2048x3 .f32) = V)
    (hL : ∀ t, (iblk m c 5 t : Vec Ideal S2048x1 .bf16) = L) (hsd : ∀ t, (iblk m c 6 t : Vec Ideal S1x3 .f32) = sd)
    (hmu : ∀ t, (iblk m c 7 t : Vec Ideal S1x3 .f32) = mu) :
    (outsAt0 m c tLast.val tLast.isLt).1 = k0_pay1 (F := Ideal)
      (contribOf s P Y L (grid0.coords tLast) (stA s Y X sd mu) (stPQ s Y X V sd mu) (stR s Y X sd mu)
        (stS s Y X V sd mu) (stPos s Y X sd mu) (stVel s Y V sd mu))
      (k0_pay1 (F := Ideal) (contribOf s P Y L (grid0.coords tFirst) (stA s Y X sd mu) (stPQ s Y X V sd mu)
        (stR s Y X sd mu) (stS s Y X V sd mu) (stPos s Y X sd mu) (stVel s Y V sd mu)) (k0_pay21 (F := Ideal))) := by
  have hB := fstB m c tLast (by decide)
  have hA := fstA m c tFirst (by decide)
  rw [hs, hP, hY, hX, hV, hL, hsd, hmu] at hA
  have hA' : outsAt0 m c (tLast.val - 1) (Nat.lt_of_le_of_lt (Nat.sub_le ..) tLast.isLt) = _ := hA
  rw [hs, hP, hY, hL, hA'] at hB
  exact hB

variable {a0 a1 a2 a3 : FVec Ideal S2048x3 .f32} {a4 : FVec Ideal S2048 .f32} {a5 a6 a7 : FVec Ideal S_ .f32}
  {a8 a9 : FVec Ideal S3 .f32} {a10 : IVec S_ 32}

/-- From real arrays, with smoothing length and time step not zero, the kernel's output block holds the reference's loss. -/
theorem out_eq_loss
    (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3)
    (e4 : m ((c.tc : Thread nD τ).loc main_arg4) = a4) (e5 : m ((c.tc : Thread nD τ).loc main_arg5) = a5)
    (e6 : m ((c.tc : Thread nD τ).loc main_arg6) = a6) (e7 : m ((c.tc : Thread nD τ).loc main_arg7) = a7)
    (e8 : m ((c.tc : Thread nD τ).loc main_arg8) = a8) (e9 : m ((c.tc : Thread nD τ).loc main_arg9) = a9)
    (e10 : m ((c.tc : Thread nD τ).loc main_arg10) = a10)
    (f1 : ∀ j k, IsReal (a1 (ix2 j k))) (f2 : ∀ j k, IsReal (a2 (ix2 j k))) (f3 : ∀ j k, IsReal (a3 (ix2 j k)))
    (f8 : ∀ k, IsReal (a8 (ix1 k))) (f9 : ∀ k, IsReal (a9 (ix1 k))) (h6 : a6 ix0 ≠ 0) (h7 : a7 ix0 ≠ 0) :
    (outsAt0 m c tLast.val tLast.isLt).1 (ix2 0 0) = refLoss a0 a1 a2 a3 a4 a5 a6 a7 a8 a9 a10 ix0 := by
  -- positions and velocities are real
  have rp : ∀ j k, IsReal (refPos a1 a2 a8 a9 a10 (ix2 j k)) := fun j k => by
    pointwise [refPos, refInv, refFree]
    exact (f2 j k).add ((isReal_uitofp _).mul (((f1 j k).mul (f9 k)).add (f8 k)))
  have rv : ∀ j k, IsReal (refVel a1 a3 a7 a8 a9 a10 (ix2 j k)) := fun j k => by
    pointwise [refVel, refInv, refFree]
    exact (f3 j k).add ((isReal_uitofp _).mul ((((f1 j k).mul (f9 k)).add (f8 k)).div h7))
  choose p hp using rp
  choose v hv using rv
  obtain ⟨η, hη⟩ := isReal_inv (a6 ix0)
  -- the normalisation is real
  obtain ⟨σ, hσ⟩ : IsReal (refSigma a6 ix0) := by
    pointwise [refSigma]
    rw [eight_f32, pi_lit]
    refine IsReal.div ⟨_, rfl⟩ ?_
    refine mul_ne_zero ?_ (mul_ne_zero (mul_ne_zero h6 h6) h6)
    exact_mod_cast piLit_pos.ne'
  -- the scalar row and the carried arrays
  obtain ⟨s0, s1, s2, s3⟩ := v14_apply m c e5 e6 e7 e10
  have hsd := v15_apply m c e9
  have hmu := v16_apply m c e8
  have hL := v7_apply m c e4 e6
  rw [hσ] at hL
  have hP := fun j k => (stPos_eq (Y := a1) (X := a2) s3 hsd hmu j k).trans (hp j k)
  have hV := fun j k => (stVel_eq (Y := a1) (V := a3) s2 s3 hsd hmu h7 j k).trans (hv j k)
  have he : scHinv (V m c main_v14) = ((η : ℝ) : EReal) := by
    rw [scHinv_eq, s1, Ideal.div, if_neg h6, one_mul, hη]
  have hr : scRho (V m c main_v14) = a5 ix0 := by rw [scRho_eq, s0]
  rw [out_eq m c (blk0 m c) (fun t => (blk1 m c t).trans e0) (fun t => (blk2 m c t).trans e1)
    (fun t => (blk3 m c t).trans e2) (fun t => (blk4 m c t).trans e3) (blk5 m c) (blk6 m c) (blk7 m c),
    pay1_apply, pay1_apply, pay21_apply, contribOf_eq hP hV he, contribOf_eq hP hV he, hr,
    refLoss_apply hp hv h6 hη hσ]
  simp only [hL, compression_sum, divergence_abs]
  rw [blocks_add, ← sum_parts (fun i => ∑ k : Fin 3, (a1 (ix2 i k) - a0 (ix2 i k)) * (a1 (ix2 i k) - a0 (ix2 i k))),
    ← sum_parts (fun i => eabs (Ideal.div (a5 ix0 * ∑ j : Fin 2048, a4 (ix1 j) * ((σ * wf (sep p i j * η) : ℝ) : EReal)) (a5 ix0) - 1)),
    ← sum_parts (fun i => eabs (a5 ix0 * ∑ j : Fin 2048, a4 (ix1 j)
        * ((η * (σ * (gf (sep p i j * η) * dot p v i j * (sep p i j)⁻¹)) : ℝ) : EReal)))]
  all_goals
    refine Finset.sum_nonneg fun r _ => ?_
    first | exact eabs_nonneg _ | exact Finset.sum_nonneg fun k _ => sq_nonneg' _

end Cert.KernelIdeal.Alg
-- ==== Proof.Corner.lean ====
module

public import proofs.«01_k».proof.Proof.Equation

/-! The corners of the equation: a target that is infinite, and a smoothing length that is zero. -/

@[expose] public section

set_option maxRecDepth 16384

noncomputable section

namespace Cert.Sph

open Idealize.ShloMosaic

/-- A value that is not real, less any value, has an infinite square. -/
theorem sq_top {x : EReal} (h : ¬ IsReal x) (b : EReal) : (x - b) * (x - b) = ⊤ := by
  induction x with
  | bot => simp
  | top => induction b <;> simp
  | coe r => exact absurd ⟨r, rfl⟩ h

/-- A sum of values that are not negative, one of them infinite, is infinite. -/
theorem sum_top {ι : Type*} [Fintype ι] (f : ι → EReal) (h : ∀ i, 0 ≤ f i) (i : ι) (hi : f i = ⊤) : ∑ i, f i = ⊤ := by
  refine top_le_iff.mp ?_
  rw [← hi]
  exact Finset.single_le_sum (fun j _ => h j) (Finset.mem_univ i)

/-- A sum of squared errors with a target that is not real is infinite. -/
theorem sq_sum_top {ι κ : Type*} [Fintype ι] [Fintype κ] (y b : ι → κ → EReal) (i : ι) (k : κ) (h : ¬ IsReal (y i k)) :
    ∑ i, ∑ k, (y i k - b i k) * (y i k - b i k) = ⊤ :=
  sum_top (fun i => ∑ k, (y i k - b i k) * (y i k - b i k)) (fun i => Finset.sum_nonneg fun k _ => sq_nonneg' _) i
    (sum_top (fun k => (y i k - b i k) * (y i k - b i k)) (fun k => sq_nonneg' _) k (sq_top h _))

/-- A value that is not negative stays so over the number of particles. -/
theorem div_nonneg' {x : EReal} (h : 0 ≤ x) : 0 ≤ Ideal.div x ((2048 : ℝ) : EReal) := by
  rw [div_coe _ (by norm_num : (2048 : ℝ) ≠ 0)]
  exact mul_nonneg h (by exact_mod_cast (by norm_num : (0 : ℝ) ≤ 2048⁻¹))

/-- Infinity over the number of particles is infinity. -/
theorem div_top : Ideal.div ⊤ ((2048 : ℝ) : EReal) = ⊤ := by
  rw [div_coe _ (by norm_num : (2048 : ℝ) ≠ 0)]
  exact EReal.top_mul_coe_of_pos (by norm_num)

/-- Infinity plus a value that is not negative is infinity. -/
theorem top_add' {x : EReal} (h : 0 ≤ x) : ⊤ + x = ⊤ := EReal.top_add_of_ne_bot (ne_of_gt (lt_of_lt_of_le EReal.bot_lt_zero h))

/-- A value that is not negative plus infinity is infinity. -/
theorem add_top' {x : EReal} (h : 0 ≤ x) : x + ⊤ = ⊤ := by rw [add_comm, top_add' h]

/-- Half of a value that is not negative is not negative. -/
theorem half_nonneg {x : EReal} (h : 0 ≤ x) : 0 ≤ ((1 / 2 : ℝ) : EReal) * x :=
  mul_nonneg (by exact_mod_cast (by norm_num : (0 : ℝ) ≤ 1 / 2)) h

end Cert.Sph

namespace Cert.ReferenceIdeal.Alg

open Idealize.ShloMosaic Idealize.SL.Sem Cert.ReferenceIdeal Cert.ReferenceIdeal.Gen Cert.Sph

variable {a0 a1 a2 a3 : FVec Ideal S2048x3 .f32} {a4 : FVec Ideal S2048 .f32} {a5 a6 a7 : FVec Ideal S_ .f32}
  {a8 a9 : FVec Ideal S3 .f32} {a10 : IVec S_ 32} {p v : Fin 2048 → Fin 3 → ℝ}

/-- The loss as three means, of whatever the two arrays of absolute values hold. -/
theorem refLoss_means : refLoss a0 a1 a2 a3 a4 a5 a6 a7 a8 a9 a10 ix0
    = Ideal.div (∑ i : Fin 2048, ∑ k : Fin 3, (a1 (ix2 i k) - a0 (ix2 i k)) * (a1 (ix2 i k) - a0 (ix2 i k))) ((2048 : ℝ) : EReal)
      + ((1 / 2 : ℝ) : EReal) * Ideal.div (∑ i : Fin 2048, refCmp a1 a2 a4 a5 a6 a8 a9 a10 (ix1 i)) ((2048 : ℝ) : EReal)
      + ((1 / 2 : ℝ) : EReal) * Ideal.div (∑ i : Fin 2048, refDiv a1 a2 a3 a4 a5 a6 a7 a8 a9 a10 (ix1 i)) ((2048 : ℝ) : EReal) := by
  pointwise [refLoss]
  simp only [refSq_apply, half_f32, n_f32, one_mul]

/-- An absolute compression is not negative. -/
theorem refCmp_nonneg (i : Fin 2048) : 0 ≤ refCmp a1 a2 a4 a5 a6 a8 a9 a10 (ix1 i) := by
  pointwise [refCmp]
  exact eabs_nonneg _

/-- An absolute divergence is not negative. -/
theorem refDiv_nonneg (i : Fin 2048) : 0 ≤ refDiv a1 a2 a3 a4 a5 a6 a7 a8 a9 a10 (ix1 i) := by
  pointwise [refDiv]
  exact eabs_nonneg _

/-- With a target that is not real, the reference's loss is infinite. -/
theorem refLoss_top {j : Fin 2048} {k : Fin 3} (h : ¬ IsReal (a1 (ix2 j k))) :
    refLoss a0 a1 a2 a3 a4 a5 a6 a7 a8 a9 a10 ix0 = ⊤ := by
  rw [refLoss_means, sq_sum_top (fun i k => a1 (ix2 i k)) (fun i k => a0 (ix2 i k)) j k h, div_top,
    top_add' (half_nonneg (div_nonneg' (Finset.sum_nonneg fun i _ => refCmp_nonneg i))),
    top_add' (half_nonneg (div_nonneg' (Finset.sum_nonneg fun i _ => refDiv_nonneg i)))]

section zero
variable (hp : ∀ j k, refPos a1 a2 a8 a9 a10 (ix2 j k) = ((p j k : ℝ) : EReal)) (h0 : a6 ix0 = 0)

include hp h0 in
/-- Over a zero smoothing length every distance is infinite. -/
theorem refQ_zero (i j : Fin 2048) : refQ a1 a2 a6 a8 a9 a10 (ix2 i j) = ⊤ := by
  pointwise [refQ]
  rw [refD_apply hp, Ideal.div, if_pos h0, if_pos (by exact_mod_cast sep_pos p i j)]

include hp h0 in
/-- The spline vanishes for a zero smoothing length. -/
theorem refW_zero (i j : Fin 2048) : refW a1 a2 a6 a8 a9 a10 (ix2 i j) = 0 := by
  pointwise [refW]
  rw [refQ_zero hp h0]
  simp [← EReal.coe_one, -EReal.coe_one]
  exact zero_const

include hp h0 in
/-- So does its derivative. -/
theorem refG_zero (i j : Fin 2048) : refG a1 a2 a6 a8 a9 a10 (ix2 i j) = 0 := by
  pointwise [refG]
  rw [refQ_zero hp h0]
  simp [← EReal.coe_one, -EReal.coe_one]
  exact zero_const

include hp h0 in
/-- Every product of velocity difference and gradient is zero then. -/
theorem refDot_zero (i j : Fin 2048) : refDot a1 a2 a3 a6 a7 a8 a9 a10 (ix2 i j) = 0 := by
  pointwise [refDot]
  simp [refG_zero hp h0]

include hp h0 in
/-- The loss for a zero smoothing length: nothing is dense, nothing diverges. -/
theorem refLoss_zero : refLoss a0 a1 a2 a3 a4 a5 a6 a7 a8 a9 a10 ix0
    = Ideal.div (∑ i : Fin 2048, ∑ k : Fin 3, (a1 (ix2 i k) - a0 (ix2 i k)) * (a1 (ix2 i k) - a0 (ix2 i k))) ((2048 : ℝ) : EReal)
      + ((1 / 2 : ℝ) : EReal) * Ideal.div (∑ _i : Fin 2048, eabs (Ideal.div 0 (a5 ix0) - 1)) ((2048 : ℝ) : EReal)
      + ((1 / 2 : ℝ) : EReal) * Ideal.div (∑ _i : Fin 2048, eabs 0) ((2048 : ℝ) : EReal) := by
  have e1 : ∀ i, refCmp a1 a2 a4 a5 a6 a8 a9 a10 (ix1 i) = eabs (Ideal.div 0 (a5 ix0) - 1) := fun i => by
    pointwise [refCmp]
    simp only [refW_zero hp h0, mul_zero, Finset.sum_const_zero, Ideal.absf_def, eabs]
  have e2 : ∀ i, refDiv a1 a2 a3 a4 a5 a6 a7 a8 a9 a10 (ix1 i) = eabs 0 := fun i => by
    pointwise [refDiv]
    simp only [refDot_zero hp h0, mul_zero, Finset.sum_const_zero, Ideal.absf_def, eabs]
  rw [refLoss_means]
  simp only [e1, e2]

end zero

end Cert.ReferenceIdeal.Alg

namespace Cert.KernelIdeal.Alg

open Idealize.ShloMosaic Idealize.SL.Sem Cert.KernelIdeal Cert.KernelIdeal.Gen Cert.Sph Cert.ReferenceIdeal.Alg

section block
variable {p : Fin 2048 → Fin 3 → ℝ} {ρ : Fin 1024 → Fin 2048}
  {A : FVec Ideal S1024x1 .f32} {B : FVec Ideal S1024x2048 .f32} {C : Vec Ideal S1x2048 .f32}
  (hA : ∀ r z, A (ix2 r z) = ((∑ k, p (ρ r) k * p (ρ r) k : ℝ) : EReal))
  (hB : ∀ r j, B (ix2 r j) = ((∑ k, p (ρ r) k * p j k : ℝ) : EReal))
  (hC : ∀ z j, C (ix2 z j) = ((∑ k, p j k * p j k + eps : ℝ) : EReal))

include hA hB hC in
/-- With an infinite reciprocal every scaled distance is infinite. -/
theorem pay30_top (r : Fin 1024) (j : Fin 2048) : k0_pay30 (F := Ideal) ⊤ A B C (ix2 r j) = ⊤ := by
  have h0 := pay28_apply hA hB hC r j
  have h1 := pay29_apply hA hB hC r j
  pointwise [k0_pay30]
  rw [h0, h1, ← EReal.coe_mul]
  exact EReal.coe_mul_top_of_pos (mul_pos (D_pos p _ _) (inv_pos.mpr (sep_pos p _ _)))

include hA hB hC in
/-- The spline vanishes there. -/
theorem pay35_top (r : Fin 1024) (j : Fin 2048) : k0_pay35 (F := Ideal) ⊤ A B C (ix2 r j) = 0 := by
  have h0 := pay30_top hA hB hC r j
  pointwise [k0_pay35, k0_pay31, k0_pay32, k0_pay33, k0_pay34]
  rw [h0, half_bf16]
  simp [← EReal.coe_one, -EReal.coe_one]

include hA hB hC in
/-- So does its derivative. -/
theorem pay36_top (r : Fin 1024) (j : Fin 2048) : k0_pay36 (F := Ideal) ⊤ A B C (ix2 r j) = 0 := by
  have h0 := pay30_top hA hB hC r j
  pointwise [k0_pay36, k0_pay31, k0_pay32, k0_pay33, k0_pay34]
  rw [h0, half_bf16]
  simp [← EReal.coe_one, -EReal.coe_one]

end block

section contribution
variable {s : Vec Ideal S1x4 .f32} {P Y X V : Vec Ideal S2048x3 .f32} {L : Vec Ideal S2048x1 .bf16}
  {sd mu : Vec Ideal S1x3 .f32} {p : Fin 2048 → Fin 3 → ℝ}

/-- With an infinite reciprocal of the smoothing length, a block adds the squared errors and, for each of its particles, half
the compression of a density of zero. -/
theorem contribOf_zero (hP : ∀ j k, stPos s Y X sd mu (ix2 j k) = ((p j k : ℝ) : EReal)) (he : scHinv s = ⊤) (t : Fin cfg0.N) :
    contribOf s P Y L (grid0.coords t) (stA s Y X sd mu) (stPQ s Y X V sd mu) (stR s Y X sd mu) (stS s Y X V sd mu)
      (stPos s Y X sd mu) (stVel s Y V sd mu) =
    Ideal.div ((∑ r : Fin 1024, ∑ k : Fin 3, (Y (ix2 (part t r) k) - P (ix2 (part t r) k)) * (Y (ix2 (part t r) k) - P (ix2 (part t r) k)))
      + ((1 / 2 : ℝ) : EReal) * (∑ _r : Fin 1024, eabs (Ideal.div 0 (scRho s) - 1))
      + ((1 / 2 : ℝ) : EReal) * (∑ _r : Fin 1024, eabs 0)) ((2048 : ℝ) : EReal) := by
  have hT : ∀ k j, stPosT s Y X sd mu (ix2 k j) = ((p j k : ℝ) : EReal) := fun k j => by rw [stPosT_apply, hP]
  have hR : ∀ r k, rows (grid0.coords t) (stPos s Y X sd mu) (ix2 r k) = ((p (part t r) k : ℝ) : EReal) :=
    fun r k => by rw [rows_apply, hP]
  have hC : ∀ z j, stR s Y X sd mu (ix2 z j) = ((∑ k, p j k * p j k + eps : ℝ) : EReal) := fun z j => by
    rw [stR_apply, hP, hP, hP, Fin.sum_univ_three]
    norm_cast
  have hA := pay22_apply hR
  have hB := pay26_apply hT hR
  unfold contribOf stA
  rw [pay38_eq, he]
  simp only [rows_apply, pay35_top hA hB hC, pay36_top hA hB hC, zero_mul, Finset.sum_const_zero, mul_zero]

/-- A block's contribution is never negative. -/
theorem contribOf_nonneg (t : Fin cfg0.N) : 0 ≤
    contribOf s P Y L (grid0.coords t) (stA s Y X sd mu) (stPQ s Y X V sd mu) (stR s Y X sd mu) (stS s Y X V sd mu)
      (stPos s Y X sd mu) (stVel s Y V sd mu) := by
  unfold contribOf
  rw [pay38_eq]
  exact div_nonneg' (add_nonneg (add_nonneg (Finset.sum_nonneg fun r _ => Finset.sum_nonneg fun k _ => sq_nonneg' _)
    (half_nonneg (Finset.sum_nonneg fun r _ => eabs_nonneg _))) (half_nonneg (Finset.sum_nonneg fun r _ => eabs_nonneg _)))

/-- With a target of the block that is not real, its contribution is infinite. -/
theorem contribOf_top {t : Fin cfg0.N} {r : Fin 1024} {k : Fin 3} (h : ¬ IsReal (Y (ix2 (part t r) k))) :
    contribOf s P Y L (grid0.coords t) (stA s Y X sd mu) (stPQ s Y X V sd mu) (stR s Y X sd mu) (stS s Y X V sd mu)
      (stPos s Y X sd mu) (stVel s Y V sd mu) = ⊤ := by
  unfold contribOf
  rw [pay38_eq]
  simp only [rows_apply]
  rw [sq_sum_top (fun r k => Y (ix2 (part t r) k)) (fun r k => P (ix2 (part t r) k)) r k h,
    top_add' (half_nonneg (Finset.sum_nonneg fun r _ => eabs_nonneg _)),
    top_add' (half_nonneg (Finset.sum_nonneg fun r _ => eabs_nonneg _)), div_top]

end contribution

/-- Every particle is in one of the two blocks. -/
theorem part_cases (j : Fin 2048) : (∃ r, part tFirst r = j) ∨ ∃ r, part tLast r = j := by
  by_cases h : j.val < 1024
  · exact Or.inl ⟨⟨j.val, h⟩, Fin.ext (by simp [part, tFirst])⟩
  · refine Or.inr ⟨⟨j.val - 1024, by omega⟩, Fin.ext ?_⟩
    simp [part, tLast]
    omega

variable (m : (ℓ : Loc nD τ sig) → Buf (Elt Ideal) ℓ) (c : Dev nD)
  {a0 a1 a2 a3 : FVec Ideal S2048x3 .f32} {a4 : FVec Ideal S2048 .f32} {a5 a6 a7 : FVec Ideal S_ .f32}
  {a8 a9 : FVec Ideal S3 .f32} {a10 : IVec S_ 32}

/-- With a target that is not real, the kernel's output block holds infinity. -/
theorem out_top (e1 : m ((c.tc : Thread nD τ).loc main_arg1) = a1) {j : Fin 2048} {k : Fin 3} (h : ¬ IsReal (a1 (ix2 j k))) :
    (outsAt0 m c tLast.val tLast.isLt).1 (ix2 0 0) = ⊤ := by
  rw [out_eq m c (blk0 m c) (blk1 m c) (fun t => (blk2 m c t).trans e1)
    (blk3 m c) (blk4 m c) (blk5 m c) (blk6 m c) (blk7 m c), pay1_apply, pay1_apply, pay21_apply, zero_add]
  rcases part_cases j with ⟨r, rfl⟩ | ⟨r, rfl⟩
  · rw [contribOf_top h, top_add' (contribOf_nonneg _)]
  · rw [contribOf_top h, add_top' (contribOf_nonneg _)]

/-- With a smoothing length of zero the kernel's output block holds the reference's loss. -/
theorem out_zero
    (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3)
    (e5 : m ((c.tc : Thread nD τ).loc main_arg5) = a5)
    (e6 : m ((c.tc : Thread nD τ).loc main_arg6) = a6) (e7 : m ((c.tc : Thread nD τ).loc main_arg7) = a7)
    (e8 : m ((c.tc : Thread nD τ).loc main_arg8) = a8) (e9 : m ((c.tc : Thread nD τ).loc main_arg9) = a9)
    (e10 : m ((c.tc : Thread nD τ).loc main_arg10) = a10)
    (f1 : ∀ j k, IsReal (a1 (ix2 j k))) (f2 : ∀ j k, IsReal (a2 (ix2 j k)))
    (f8 : ∀ k, IsReal (a8 (ix1 k))) (f9 : ∀ k, IsReal (a9 (ix1 k))) (h6 : a6 ix0 = 0) :
    (outsAt0 m c tLast.val tLast.isLt).1 (ix2 0 0) = refLoss a0 a1 a2 a3 a4 a5 a6 a7 a8 a9 a10 ix0 := by
  have rp : ∀ j k, IsReal (refPos a1 a2 a8 a9 a10 (ix2 j k)) := fun j k => by
    pointwise [refPos, refInv, refFree]
    exact (f2 j k).add ((isReal_uitofp _).mul (((f1 j k).mul (f9 k)).add (f8 k)))
  choose p hp using rp
  obtain ⟨s0, s1, s2, s3⟩ := v14_apply m c e5 e6 e7 e10
  have hP := fun j k => (stPos_eq (Y := a1) (X := a2) s3 (v15_apply m c e9) (v16_apply m c e8) j k).trans (hp j k)
  have he : scHinv (V m c main_v14) = ⊤ := by
    rw [scHinv_eq, s1, Ideal.div, if_pos h6, if_pos zero_lt_one]
  have hr : scRho (V m c main_v14) = a5 ix0 := by rw [scRho_eq, s0]
  rw [out_eq m c (blk0 m c) (fun t => (blk1 m c t).trans e0) (fun t => (blk2 m c t).trans e1)
    (fun t => (blk3 m c t).trans e2) (fun t => (blk4 m c t).trans e3) (blk5 m c) (blk6 m c) (blk7 m c),
    pay1_apply, pay1_apply, pay21_apply, contribOf_zero hP he, contribOf_zero hP he, hr, refLoss_zero hp h6]
  rw [blocks_add, ← sum_parts (fun i => ∑ k : Fin 3, (a1 (ix2 i k) - a0 (ix2 i k)) * (a1 (ix2 i k) - a0 (ix2 i k))),
    ← sum_parts (fun _ => eabs (Ideal.div 0 (a5 ix0) - 1)), ← sum_parts (fun _ => eabs 0)]
  all_goals
    refine Finset.sum_nonneg fun r _ => ?_
    first | exact eabs_nonneg _ | exact Finset.sum_nonneg fun k _ => sq_nonneg' _

/-- From real middle positions and velocities, means and deviations, with a time step that is not zero, the kernel's output
block holds the reference's loss: for all targets and every smoothing length. -/
theorem out_eq_loss_all
    (e0 : m ((c.tc : Thread nD τ).loc main_arg0) = a0) (e1 : m ((c.tc : Thread nD τ).loc main_arg1) = a1)
    (e2 : m ((c.tc : Thread nD τ).loc main_arg2) = a2) (e3 : m ((c.tc : Thread nD τ).loc main_arg3) = a3)
    (e4 : m ((c.tc : Thread nD τ).loc main_arg4) = a4) (e5 : m ((c.tc : Thread nD τ).loc main_arg5) = a5)
    (e6 : m ((c.tc : Thread nD τ).loc main_arg6) = a6) (e7 : m ((c.tc : Thread nD τ).loc main_arg7) = a7)
    (e8 : m ((c.tc : Thread nD τ).loc main_arg8) = a8) (e9 : m ((c.tc : Thread nD τ).loc main_arg9) = a9)
    (e10 : m ((c.tc : Thread nD τ).loc main_arg10) = a10)
    (f2 : ∀ j k, IsReal (a2 (ix2 j k))) (f3 : ∀ j k, IsReal (a3 (ix2 j k)))
    (f8 : ∀ k, IsReal (a8 (ix1 k))) (f9 : ∀ k, IsReal (a9 (ix1 k))) (h7 : a7 ix0 ≠ 0) :
    (outsAt0 m c tLast.val tLast.isLt).1 (ix2 0 0) = refLoss a0 a1 a2 a3 a4 a5 a6 a7 a8 a9 a10 ix0 := by
  by_cases f1 : ∀ j k, IsReal (a1 (ix2 j k))
  · by_cases h6 : a6 ix0 = 0
    · exact out_zero m c e0 e1 e2 e3 e5 e6 e7 e8 e9 e10 f1 f2 f8 f9 h6
    · exact out_eq_loss m c e0 e1 e2 e3 e4 e5 e6 e7 e8 e9 e10 f1 f2 f3 f8 f9 h6 h7
  · push Not at f1
    obtain ⟨j, k, h⟩ := f1
    rw [out_top m c e1 h, refLoss_top h]

end Cert.KernelIdeal.Alg
-- ==== Proof.lean ====
/- The certificate of the particle loss: the five claims put together from the runs and the equation. -/
module

public import proofs.«01_k».proof.Defs
public import proofs.«01_k».proof.Proof.Corner
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

/-- The kernel's run at the bits leaves its arguments as they were. -/
theorem frame_kernel : Cert.quiescent_Kernel (hKernel := Cert.Kernel.Gen.facts) :=
  fun m g _ => Cert.Kernel.Gen.frame m g

/-- The kernel's run at the reals leaves its arguments as they were. -/
theorem frame_kernelIdeal : Cert.quiescent_KernelIdeal (hKernelIdeal := Cert.KernelIdeal.Gen.facts) :=
  fun m g _ => Cert.KernelIdeal.Gen.frame m g

/-- The same under the precondition. -/
theorem frame_kernelIdeal_pre : Cert.quiescent_KernelIdeal_pre_finite_particles
    (hKernelIdeal := Cert.KernelIdeal.Gen.facts) (hPre_finite_particles := Cert.Pre_finite_particles.facts) :=
  fun m g _ => Cert.KernelIdeal.Gen.frame m g

/-- The reference's run at the reals leaves its arguments as they were. -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

/-- The same under the precondition. -/
theorem frame_referenceIdeal_pre : Cert.quiescent_ReferenceIdeal_pre_finite_particles
    (hReferenceIdeal := Cert.ReferenceIdeal.Gen.facts) (hPre_finite_particles := Cert.Pre_finite_particles.facts) :=
  fun m g _ => frame_referenceIdeal m g trivial

/-- From real middle positions and velocities, means and deviations, with a time step that is not zero, kernel and reference
end with the same loss. -/
theorem algebraic : Cert.algebraic_KernelIdeal_ReferenceIdeal_pre_finite_particles
    (hKernelIdeal := Cert.KernelIdeal.Gen.facts) (hReferenceIdeal := Cert.ReferenceIdeal.Gen.facts)
    (hPre_finite_particles := Cert.Pre_finite_particles.facts) := by
  pair_intro
  · run_from (Cert.KernelIdeal.Alg.run m g) & (Cert.KernelIdeal.Gen.frame m g)
  · run_from (Cert.ReferenceIdeal.Value.run m' g')
    obtain ⟨h0, h1, h2, h3, h4, h5, h6, h7, h8, h9, h10⟩ := hagree c
    rw [Cert.ReferenceIdeal.Alg.res_eq, h0, h1, h2, h3, h4, h5, h6, h7, h8, h9, h10]
    haveI := Cert.Pre_finite_particles.facts
    obtain ⟨f2, f3, f8, f9, n7⟩ := Cert.Pre_finite_particles.finite (congrFun (hpre c) ix0)
    funext j
    rw [← ix0_eta j, Cert.KernelIdeal.Alg.result_apply]
    exact (Cert.KernelIdeal.Alg.out_eq_loss_all m c rfl rfl rfl rfl rfl rfl rfl rfl rfl rfl rfl f2 f3 f8 f9 n7).symm

/-- Everything the certificate claims. -/
theorem claim : Cert.Claim :=
  ⟨Cert.Kernel.Gen.facts, Cert.KernelIdeal.Gen.facts, Cert.ReferenceIdeal.Gen.facts, Cert.Pre_finite_particles.facts,
    frame_kernel, frame_kernelIdeal, frame_kernelIdeal_pre, frame_referenceIdeal, frame_referenceIdeal_pre, trivial, algebraic⟩

end Cert.Proof

end
